-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 4096]⟩ ⟨3, ![4, 4096, 4096]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S2x4x512x1024 : Shape := ⟨4, ![2, 4, 512, 1024]⟩
abbrev S2048x1024 : Shape := ⟨2, ![2048, 1024]⟩
abbrev S2x4 : Shape := ⟨2, ![2, 4]⟩
abbrev S18 : Shape := ⟨1, ![18]⟩
abbrev S1 : Shape := ⟨1, ![1]⟩
abbrev S_ : Shape := ⟨0, ![]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .local _ .vmem, ⟨0, _⟩ => ⟨S2x4x512x1024, .f32⟩
  | .local _ .vmem, ⟨1, _⟩ => ⟨S2x4x512x1024, .f32⟩
  | .local _ .vmem, ⟨2, _⟩ => ⟨S2048x1024, .f32⟩
  | .local _ .vmem, ⟨3, _⟩ => ⟨S2048x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 9 50 bufScoped semScoped dmaSemScoped tileCredit tileCredit_eq_zero tileCredit_pos).withBarriers [(0, 8)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 8

abbrev nD : Nat := 4
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_5 : BitVec 32 := 4#32
  let v9 : BitVec 32 := Scalar.remsi v8 c4_i32_5
  let c1024_i32 : BitVec 32 := 1024#32
  let v10 : BitVec 32 := Scalar.muli v9 c1024_i32
  ![0, 0, v10.toNat]
def k0_off2 (d0 : Dev nD) : Fin 3 → Nat :=
  let c0_i32_12 : BitVec 32 := 0#32
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_5 : BitVec 32 := 4#32
  let v9 : BitVec 32 := Scalar.remsi v8 c4_i32_5
  let c1024_i32_11 : BitVec 32 := 1024#32
  let v17 : BitVec 32 := Scalar.muli v9 c1024_i32_11
  ![0, 512, v17.toNat]
def k0_off3 (d0 : Dev nD) : Fin 3 → Nat :=
  let c0_i32_19 : BitVec 32 := 0#32
  let c1024_i32_25 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_5 : BitVec 32 := 4#32
  let v9 : BitVec 32 := Scalar.remsi v8 c4_i32_5
  let c1024_i32_18 : BitVec 32 := 1024#32
  let v24 : BitVec 32 := Scalar.muli v9 c1024_i32_18
  ![0, 1024, v24.toNat]
def k0_off4 (d0 : Dev nD) : Fin 3 → Nat :=
  let c0_i32_27 : BitVec 32 := 0#32
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_5 : BitVec 32 := 4#32
  let v9 : BitVec 32 := Scalar.remsi v8 c4_i32_5
  let c1024_i32_26 : BitVec 32 := 1024#32
  let v31 : BitVec 32 := Scalar.muli v9 c1024_i32_26
  ![0, 1536, v31.toNat]
def k0_off5 (d0 : Dev nD) : Fin 3 → Nat :=
  let c0_i32_35 : BitVec 32 := 0#32
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v38 : BitVec 32 := Scalar.addi v2 c1_i32_32
  let c4_i32_33 : BitVec 32 := 4#32
  let v39 : BitVec 32 := Scalar.remsi v38 c4_i32_33
  let c1024_i32_34 : BitVec 32 := 1024#32
  let v40 : BitVec 32 := Scalar.muli v39 c1024_i32_34
  ![0, 2048, v40.toNat]
def k0_off6 (d0 : Dev nD) : Fin 3 → Nat :=
  let c0_i32_41 : BitVec 32 := 0#32
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v38 : BitVec 32 := Scalar.addi v2 c1_i32_32
  let c4_i32_33 : BitVec 32 := 4#32
  let v39 : BitVec 32 := Scalar.remsi v38 c4_i32_33
  let c1024_i32_40 : BitVec 32 := 1024#32
  let v47 : BitVec 32 := Scalar.muli v39 c1024_i32_40
  ![0, 2560, v47.toNat]
def k0_off7 (d0 : Dev nD) : Fin 3 → Nat :=
  let c0_i32_47 : BitVec 32 := 0#32
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v38 : BitVec 32 := Scalar.addi v2 c1_i32_32
  let c4_i32_33 : BitVec 32 := 4#32
  let v39 : BitVec 32 := Scalar.remsi v38 c4_i32_33
  let c1024_i32_46 : BitVec 32 := 1024#32
  let v54 : BitVec 32 := Scalar.muli v39 c1024_i32_46
  ![0, 3072, v54.toNat]
def k0_off8 (d0 : Dev nD) : Fin 3 → Nat :=
  let c0_i32_53 : BitVec 32 := 0#32
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v38 : BitVec 32 := Scalar.addi v2 c1_i32_32
  let c4_i32_33 : BitVec 32 := 4#32
  let v39 : BitVec 32 := Scalar.remsi v38 c4_i32_33
  let c1024_i32_52 : BitVec 32 := 1024#32
  let v61 : BitVec 32 := Scalar.muli v39 c1024_i32_52
  ![0, 3584, v61.toNat]
def k0_off9 (d0 : Dev nD) (c0_i32_59 : BitVec 32) : Fin 3 → Nat :=
  let c0_i32_68 : BitVec 32 := 0#32
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v68 : BitVec 32 := Scalar.addi v2 c2_i32_58
  let v69 : BitVec 32 := Scalar.addi v68 c0_i32_59
  let c4_i32_60 : BitVec 32 := 4#32
  let v70 : BitVec 32 := Scalar.addi v69 c4_i32_60
  let c4_i32_61 : BitVec 32 := 4#32
  let v71 : BitVec 32 := Scalar.remsi v70 c4_i32_61
  let c1024_i32_62 : BitVec 32 := 1024#32
  let v72 : BitVec 32 := Scalar.muli v71 c1024_i32_62
  ![0, 0, v72.toNat]
def k0_off9_at (r : Fin 3) : BitVec 32 :=
  if r.val < 1 then
    0#32
  else
    if r.val < 2 then
      4294967295#32
    else
      4294967294#32
def k0_off10 (d0 : Dev nD) (c0_i32_64 : BitVec 32) : Fin 3 → Nat :=
  let c0_i32_71 : BitVec 32 := 0#32
  let c2048_i32_73 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v73 : BitVec 32 := Scalar.addi v2 c2_i32_63
  let v74 : BitVec 32 := Scalar.addi v73 c0_i32_64
  let c4_i32_65 : BitVec 32 := 4#32
  let v75 : BitVec 32 := Scalar.addi v74 c4_i32_65
  let c4_i32_66 : BitVec 32 := 4#32
  let v76 : BitVec 32 := Scalar.remsi v75 c4_i32_66
  let c1024_i32_67 : BitVec 32 := 1024#32
  let v77 : BitVec 32 := Scalar.muli v76 c1024_i32_67
  ![0, 2048, v77.toNat]
def k0_dev1 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_75 : BitVec 32 := 1#32
  let v87 : BitVec 32 := Scalar.muli v5 c1_i32_75
  let v88 : BitVec 32 := Scalar.addi c0_i32_76 v87
  v88.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_78 : BitVec 32 := 1#32
  let v89 : BitVec 32 := Scalar.muli v7 c1_i32_78
  let v90 : BitVec 32 := Scalar.addi c0_i32_79 v89
  v90.toNat
def k0_dev3 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_145 : BitVec 32 := 1#32
  let v139 : BitVec 32 := Scalar.muli v7 c1_i32_145
  let v140 : BitVec 32 := Scalar.addi c0_i32_146 v139
  v140.toNat
def k0_dev4 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_159 : BitVec 32 := 1#32
  let v149 : BitVec 32 := Scalar.muli v5 c1_i32_159
  let v150 : BitVec 32 := Scalar.addi c0_i32_160 v149
  v150.toNat
def k0_dev5 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_173 : BitVec 32 := 1#32
  let v159 : BitVec 32 := Scalar.muli v7 c1_i32_173
  let v160 : BitVec 32 := Scalar.addi c0_i32_174 v159
  v160.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_187 : BitVec 32 := 1#32
  let v169 : BitVec 32 := Scalar.muli v5 c1_i32_187
  let v170 : BitVec 32 := Scalar.addi c0_i32_188 v169
  v170.toNat
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_201 : BitVec 32 := 1#32
  let v179 : BitVec 32 := Scalar.muli v7 c1_i32_201
  let v180 : BitVec 32 := Scalar.addi c0_i32_202 v179
  v180.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_215 : BitVec 32 := 1#32
  let v189 : BitVec 32 := Scalar.muli v5 c1_i32_215
  let v190 : BitVec 32 := Scalar.addi c0_i32_216 v189
  v190.toNat
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_229 : BitVec 32 := 1#32
  let v199 : BitVec 32 := Scalar.muli v7 c1_i32_229
  let v200 : BitVec 32 := Scalar.addi c0_i32_230 v199
  v200.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_243 : BitVec 32 := 1#32
  let v209 : BitVec 32 := Scalar.muli v5 c1_i32_243
  let v210 : BitVec 32 := Scalar.addi c0_i32_244 v209
  v210.toNat
def k0_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_293 : BitVec 32 := 1#32
  let v250 : BitVec 32 := Scalar.muli v5 c1_i32_293
  let v251 : BitVec 32 := Scalar.addi c0_i32_294 v250
  v251.toNat
def k0_dev12 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_307 : BitVec 32 := 1#32
  let v254 : BitVec 32 := Scalar.muli v7 c1_i32_307
  let v255 : BitVec 32 := Scalar.addi c0_i32_308 v254
  v255.toNat
def k0_dev13 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_353 : BitVec 32 := 1#32
  let v287 : BitVec 32 := Scalar.muli v7 c1_i32_353
  let v288 : BitVec 32 := Scalar.addi c0_i32_354 v287
  v288.toNat
def k0_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_367 : BitVec 32 := 1#32
  let v291 : BitVec 32 := Scalar.muli v5 c1_i32_367
  let v292 : BitVec 32 := Scalar.addi c0_i32_368 v291
  v292.toNat
def k0_dev15 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_412 : BitVec 32 := 1#32
  let v324 : BitVec 32 := Scalar.muli v5 c1_i32_412
  let v325 : BitVec 32 := Scalar.addi c0_i32_413 v324
  v325.toNat
def k0_dev16 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_426 : BitVec 32 := 1#32
  let v328 : BitVec 32 := Scalar.muli v7 c1_i32_426
  let v329 : BitVec 32 := Scalar.addi c0_i32_427 v328
  v329.toNat
def k0_dev17 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_472 : BitVec 32 := 1#32
  let v361 : BitVec 32 := Scalar.muli v7 c1_i32_472
  let v362 : BitVec 32 := Scalar.addi c0_i32_473 v361
  v362.toNat
def k0_dev18 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_486 : BitVec 32 := 1#32
  let v365 : BitVec 32 := Scalar.muli v5 c1_i32_486
  let v366 : BitVec 32 := Scalar.addi c0_i32_487 v365
  v366.toNat
def k0_dev19 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_530 : BitVec 32 := 1#32
  let v398 : BitVec 32 := Scalar.muli v5 c1_i32_530
  let v399 : BitVec 32 := Scalar.addi c0_i32_531 v398
  v399.toNat
def k0_dev20 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_544 : BitVec 32 := 1#32
  let v402 : BitVec 32 := Scalar.muli v7 c1_i32_544
  let v403 : BitVec 32 := Scalar.addi c0_i32_545 v402
  v403.toNat
def k0_dev21 (d0 : Dev nD) : Nat :=
  let c0_i32_591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_590 : BitVec 32 := 1#32
  let v435 : BitVec 32 := Scalar.muli v7 c1_i32_590
  let v436 : BitVec 32 := Scalar.addi c0_i32_591 v435
  v436.toNat
def k0_dev22 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_604 : BitVec 32 := 1#32
  let v439 : BitVec 32 := Scalar.muli v5 c1_i32_604
  let v440 : BitVec 32 := Scalar.addi c0_i32_605 v439
  v440.toNat
def k0_dev23 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_648 : BitVec 32 := 1#32
  let v472 : BitVec 32 := Scalar.muli v5 c1_i32_648
  let v473 : BitVec 32 := Scalar.addi c0_i32_649 v472
  v473.toNat
def k0_dev24 (d0 : Dev nD) : Nat :=
  let c0_i32_663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_662 : BitVec 32 := 1#32
  let v476 : BitVec 32 := Scalar.muli v7 c1_i32_662
  let v477 : BitVec 32 := Scalar.addi c0_i32_663 v476
  v477.toNat
def k0_dev25 (d0 : Dev nD) : Nat :=
  let c0_i32_709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_708 : BitVec 32 := 1#32
  let v509 : BitVec 32 := Scalar.muli v7 c1_i32_708
  let v510 : BitVec 32 := Scalar.addi c0_i32_709 v509
  v510.toNat
def k0_dev26 (d0 : Dev nD) : Nat :=
  let c0_i32_723 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_722 : BitVec 32 := 1#32
  let v513 : BitVec 32 := Scalar.muli v5 c1_i32_722
  let v514 : BitVec 32 := Scalar.addi c0_i32_723 v513
  v514.toNat
def k0_dev27 (d0 : Dev nD) : Nat :=
  let c0_i32_790 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_789 : BitVec 32 := 1#32
  let v572 : BitVec 32 := Scalar.muli v5 c1_i32_789
  let v573 : BitVec 32 := Scalar.addi c0_i32_790 v572
  v573.toNat
def k0_dev28 (d0 : Dev nD) : Nat :=
  let c0_i32_804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_803 : BitVec 32 := 1#32
  let v576 : BitVec 32 := Scalar.muli v7 c1_i32_803
  let v577 : BitVec 32 := Scalar.addi c0_i32_804 v576
  v577.toNat
def k0_dev29 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_849 : BitVec 32 := 1#32
  let v609 : BitVec 32 := Scalar.muli v7 c1_i32_849
  let v610 : BitVec 32 := Scalar.addi c0_i32_850 v609
  v610.toNat
def k0_dev30 (d0 : Dev nD) : Nat :=
  let c0_i32_864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_863 : BitVec 32 := 1#32
  let v613 : BitVec 32 := Scalar.muli v5 c1_i32_863
  let v614 : BitVec 32 := Scalar.addi c0_i32_864 v613
  v614.toNat
def k0_dev31 (d0 : Dev nD) : Nat :=
  let c0_i32_910 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_909 : BitVec 32 := 1#32
  let v646 : BitVec 32 := Scalar.muli v5 c1_i32_909
  let v647 : BitVec 32 := Scalar.addi c0_i32_910 v646
  v647.toNat
def k0_dev32 (d0 : Dev nD) : Nat :=
  let c0_i32_924 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_923 : BitVec 32 := 1#32
  let v650 : BitVec 32 := Scalar.muli v7 c1_i32_923
  let v651 : BitVec 32 := Scalar.addi c0_i32_924 v650
  v651.toNat
def k0_dev33 (d0 : Dev nD) : Nat :=
  let c0_i32_970 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_969 : BitVec 32 := 1#32
  let v683 : BitVec 32 := Scalar.muli v7 c1_i32_969
  let v684 : BitVec 32 := Scalar.addi c0_i32_970 v683
  v684.toNat
def k0_dev34 (d0 : Dev nD) : Nat :=
  let c0_i32_984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_983 : BitVec 32 := 1#32
  let v687 : BitVec 32 := Scalar.muli v5 c1_i32_983
  let v688 : BitVec 32 := Scalar.addi c0_i32_984 v687
  v688.toNat
def k0_dev35 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1029 : BitVec 32 := 1#32
  let v720 : BitVec 32 := Scalar.muli v5 c1_i32_1029
  let v721 : BitVec 32 := Scalar.addi c0_i32_1030 v720
  v721.toNat
def k0_dev36 (d0 : Dev nD) : Nat :=
  let c0_i32_1044 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1043 : BitVec 32 := 1#32
  let v724 : BitVec 32 := Scalar.muli v7 c1_i32_1043
  let v725 : BitVec 32 := Scalar.addi c0_i32_1044 v724
  v725.toNat
def k0_dev37 (d0 : Dev nD) : Nat :=
  let c0_i32_1090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1089 : BitVec 32 := 1#32
  let v757 : BitVec 32 := Scalar.muli v7 c1_i32_1089
  let v758 : BitVec 32 := Scalar.addi c0_i32_1090 v757
  v758.toNat
def k0_dev38 (d0 : Dev nD) : Nat :=
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1103 : BitVec 32 := 1#32
  let v761 : BitVec 32 := Scalar.muli v5 c1_i32_1103
  let v762 : BitVec 32 := Scalar.addi c0_i32_1104 v761
  v762.toNat
def k0_dev39 (d0 : Dev nD) : Nat :=
  let c0_i32_1150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1149 : BitVec 32 := 1#32
  let v794 : BitVec 32 := Scalar.muli v5 c1_i32_1149
  let v795 : BitVec 32 := Scalar.addi c0_i32_1150 v794
  v795.toNat
def k0_dev40 (d0 : Dev nD) : Nat :=
  let c0_i32_1164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1163 : BitVec 32 := 1#32
  let v798 : BitVec 32 := Scalar.muli v7 c1_i32_1163
  let v799 : BitVec 32 := Scalar.addi c0_i32_1164 v798
  v799.toNat
def k0_dev41 (d0 : Dev nD) : Nat :=
  let c0_i32_1210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1209 : BitVec 32 := 1#32
  let v831 : BitVec 32 := Scalar.muli v7 c1_i32_1209
  let v832 : BitVec 32 := Scalar.addi c0_i32_1210 v831
  v832.toNat
def k0_dev42 (d0 : Dev nD) : Nat :=
  let c0_i32_1224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1223 : BitVec 32 := 1#32
  let v835 : BitVec 32 := Scalar.muli v5 c1_i32_1223
  let v836 : BitVec 32 := Scalar.addi c0_i32_1224 v835
  v836.toNat
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProg.lean ====
/-
# The kernel's program as one sequence of named steps

The printed body is cut into windows by count alone. Here the same program is written as a sequence of steps that mean something
to the ring: a seed copy started or waited for, a stage copy, a hop sent, received, added, given back, an output copy. Each step is a
definition over its direction `d`, slot and sub-block `j`, taking the rest of the program; `body_eq` says that the sequence is the body.
-/
module

public import proofs.«01_k».proof.Proof.Gen.KernelIdeal.Skeleton
public import proofs.«01_k».proof.Proof.Gen.KernelIdeal.Points

@[expose] public section

noncomputable section

namespace Cert.KernelIdeal.Pf

open Cert.KernelIdeal Cert.KernelIdeal.Gen
open Idealize.ShloMosaic Idealize.ShloMosaic.TcCoe Idealize.SL Idealize.SL.Sem

variable {F : FTy → Type} [FloatOps F]

/-! ## Views and semaphores -/

/-- The slots of direction `d`: `0` clockwise, `1` counter-clockwise. -/
def commM (d : Fin 2) : Memref sig .tc .vmem S2x4x512x1024 .f32 :=
  match d with
  | 0 => Memref.whole cc0_scratch0
  | 1 => Memref.whole cc0_scratch1

/-- Where a stage lands. -/
def stageM (d : Fin 2) : Memref sig .tc .vmem S2048x1024 .f32 :=
  match d with
  | 0 => Memref.whole cc0_scratch2
  | 1 => Memref.whole cc0_scratch3

theorem stageM_isWhole : ∀ d, (stageM d).IsWhole
  | 0 => Memref.isWhole_whole _
  | 1 => Memref.isWhole_whole _

theorem slot_inb (b : Fin 2) (j : Fin 4) : ∀ a, (![b.val, j.val, 0, 0] : Fin 4 → Nat) a + S1x1x512x1024.size a ≤ S2x4x512x1024.size a := by
  revert b j; decide +kernel

/-- Sub-block `j` of slot `b`, as a rectangle of the slots. -/
abbrev slotR (b : Fin 2) (j : Fin 4) : Rect S2x4x512x1024 := Rect.unit (s := S2x4x512x1024) ![b.val, j.val, 0, 0] S1x1x512x1024.size (slot_inb b j)

/-- Sub-block `j` of slot `b` of direction `d`. -/
def slotM (d b : Fin 2) (j : Fin 4) : Memref sig .tc .vmem S512x1024 .f32 :=
  ((commM d).slice (slotR b j) (fun _ => rfl)).squeeze S512x1024 squeezes_S1x1x512x1024_S512x1024

theorem row_inb (j : Fin 4) : ∀ a, (![512 * j.val, 0] : Fin 2 → Nat) a + S512x1024.size a ≤ S2048x1024.size a := by
  revert j; decide +kernel

/-- The rows of sub-block `j` in a stage. -/
abbrev rowR (j : Fin 4) : Rect S2048x1024 := Rect.unit (s := S2048x1024) ![512 * j.val, 0] S512x1024.size (row_inb j)

theorem out_inb (d : Fin 2) (j : Fin 4) : ∀ a, (![2048 * d.val + 512 * j.val, 0] : Fin 2 → Nat) a + S512x1024.size a ≤ S4096x1024.size a := by
  revert d j; decide +kernel

/-- The rows of the result that direction `d` writes from sub-block `j`. -/
def outM (d : Fin 2) (j : Fin 4) : Memref sig .tc .hbm S512x1024 .f32 :=
  (Memref.whole main_v1).slice (Rect.unit (s := S4096x1024) ![2048 * d.val + 512 * j.val, 0] S512x1024.size (out_inb d j)) (fun _ => rfl)

/-- A sub-block of the argument, at the offset `off`. -/
def seedM (off : Fin 3 → Nat) (h : ∀ a, off a + S1x512x1024.size a ≤ S1x4096x4096.size a) : Memref sig .tc .hbm S512x1024 .f32 :=
  ((Memref.whole main_arg0).slice (Rect.unit (s := S1x4096x4096) off S1x512x1024.size h) (fun _ => rfl)).squeeze S512x1024 squeezes_S1x512x1024_S512x1024

/-- A stage of the argument, at the offset `off`. -/
def chunkM (off : Fin 3 → Nat) (h : ∀ a, off a + S1x2048x1024.size a ≤ S1x4096x4096.size a) : Memref sig .tc .hbm S2048x1024 .f32 :=
  ((Memref.whole main_arg0).slice (Rect.unit (s := S1x4096x4096) off S1x2048x1024.size h) (fun _ => rfl)).squeeze S2048x1024 squeezes_S1x2048x1024_S2048x1024

theorem sem_inb (b : Fin 2) (j : Fin 4) : ∀ a, (![b.val, j.val] : Fin 2 → Nat) a + S1x1.size a ≤ S2x4.size a := by
  revert b j; decide +kernel

theorem loc_inb (n : Fin 18) : ∀ a, (![n.val] : Fin 1 → Nat) a + S1.size a ≤ S18.size a := by
  revert n; decide +kernel

def sendA (d : Fin 2) : DmaSems sig S2x4 := match d with | 0 => cc0_scratch4 | 1 => cc0_scratch6
def recvA (d : Fin 2) : DmaSems sig S2x4 := match d with | 0 => cc0_scratch5 | 1 => cc0_scratch7

/-- The semaphore of the sends out of sub-block `j` of slot `b`. -/
def sendS (d b : Fin 2) (j : Fin 4) : DmaSem sig :=
  (((sendA d).slice (Rect.unit (s := S2x4) ![b.val, j.val] S1x1.size (sem_inb b j))).squeeze S_ squeezes_S1x1_S_).sem
/-- The semaphore of the arrivals into sub-block `j` of slot `b`. -/
def recvS (d b : Fin 2) (j : Fin 4) : DmaSem sig :=
  (((recvA d).slice (Rect.unit (s := S2x4) ![b.val, j.val] S1x1.size (sem_inb b j))).squeeze S_ squeezes_S1x1_S_).sem
/-- The semaphore of a local copy. -/
def locS (n : Fin 18) : DmaSem sig :=
  ((cc0_scratch8.slice (Rect.unit (s := S18) ![n.val] S1.size (loc_inb n))).squeeze S_ squeezes_S1_S_).sem
/-- The semaphore on which the neighbour `j` is sent to says that its next slot may be written. -/
def freeS (d : Fin 2) (j : Fin 4) : Sem sig :=
  ((cc0_scratch9.slice (Rect.unit (s := S2x4) ![d.val, j.val] S1x1.size (sem_inb d j))).squeeze S_ squeezes_S1x1_S_).sem
/-- The barrier semaphore. -/
def barS : Sem sig := (SemArray.scalar (sig.barrier 0 rfl) : Sems sig S_).sem

/-! ## Steps -/

/-- A program of the kernel. -/
abbrev Pr (F : FTy → Type) [FloatOps F] : Type 1 := Prog (TpuEff nD τ sig (Elt F) Λ₀ .tc) PUnit

/-- Start the seed copy of sub-block `j`. -/
def seedStart (d : Fin 2) (j : Fin 4) (n : Fin 18) (off : Fin 3 → Nat) (h : ∀ a, off a + S1x512x1024.size a ≤ S1x4096x4096.size a) (k : Pr F) : Pr F :=
  .op (.enqueueDma (seedM off h) (.here (slotM d 0 j)) (.dma (locS n)) ((View.wordExact_bits rfl).reshape _ _) ((View.wordExact_bits rfl).reshape _ _) ⟨Or.inl rfl, trivial⟩) fun _ => k

/-- Wait for it. -/
def seedWait (d : Fin 2) (j : Fin 4) (n : Fin 18) (off : Fin 3 → Nat) (h : ∀ a, off a + S1x512x1024.size a ≤ S1x4096x4096.size a) (k : Pr F) : Pr F :=
  .op (.waitDma2 (locS n) (seedM off h) (slotM d 0 j) ((View.wordExact_bits rfl).reshape _ _) ((View.wordExact_bits rfl).reshape _ _)) fun _ => k

/-- Start a stage copy. -/
def stageStart (d : Fin 2) (n : Fin 18) (off : Fin 3 → Nat) (h : ∀ a, off a + S1x2048x1024.size a ≤ S1x4096x4096.size a) (k : Pr F) : Pr F :=
  .op (.enqueueDma (chunkM off h) (.here (stageM d)) (.dma (locS n)) ((View.wordExact_bits rfl).reshape _ _) (stageM_isWhole d).wordExact ⟨Or.inl rfl, trivial⟩) fun _ => k

/-- Wait for it. -/
def stageWait (d : Fin 2) (n : Fin 18) (off : Fin 3 → Nat) (h : ∀ a, off a + S1x2048x1024.size a ≤ S1x4096x4096.size a) (k : Pr F) : Pr F :=
  .op (.waitDma2 (locS n) (chunkM off h) (stageM d) ((View.wordExact_bits rfl).reshape _ _) (stageM_isWhole d).wordExact) fun _ => k

/-- Signal a regular semaphore of the device `t`. -/
def sig1 (t : Dev nD) (s : Sem sig) (k : Pr F) : Pr F := .op (.semSignal (Dev.tc t) s 1) fun _ => k
/-- Wait on a regular semaphore. -/
def waitN (s : Sem sig) (n : Nat) (k : Pr F) : Pr F := .op (.semWait s n) fun _ => k

/-- Send sub-block `j` of slot `b` to the other slot of the device `t`. -/
def hopSend (t : Dev nD) (d b b' : Fin 2) (j : Fin 4) (k : Pr F) : Pr F :=
  .op (.enqueueDma (slotM d b j) (.remote (Dev.tc t) (slotM d b' j) (.dma (sendS d b j))) (.dma (recvS d b' j)) ((View.wordExact_bits rfl).reshape _ _) ((View.wordExact_bits rfl).reshape _ _) ⟨⟨rfl, Or.inl rfl⟩, trivial⟩) fun _ => k

/-- Wait for the arrival in sub-block `j` of slot `b`. -/
def recvWait (d b b' : Fin 2) (j : Fin 4) (k : Pr F) : Pr F :=
  .op (.waitDma2 (recvS d b j) (slotM d b' j) (slotM d b j) ((View.wordExact_bits rfl).reshape _ _) ((View.wordExact_bits rfl).reshape _ _)) fun _ => k

/-- Wait for the send out of sub-block `j` of slot `b`. -/
def sendWait (d b b' : Fin 2) (j : Fin 4) (k : Pr F) : Pr F :=
  .op (.waitDma2 (sendS d b j) (slotM d b' j) (slotM d b j) ((View.wordExact_bits rfl).reshape _ _) ((View.wordExact_bits rfl).reshape _ _)) fun _ => k

/-- What the add stores: the arrived sub-block and the stage's rows, summed. -/
def addPay (v : Vec F S1x1x512x1024 .f32) (w : Vec F S512x1024 .f32) : FVec F S1x1x512x1024 .f32 := k0_pay1 v w

/-- Add the stage's rows of sub-block `j` to what has arrived in slot `b`. -/
def addStage (d b : Fin 2) (j : Fin 4) (k : Pr F) : Pr F :=
  .op (.load (commM d) (slotR b j).toLoadRect (View.loadsAt_vmem h_S1x1x512x1024)) fun v =>
  .op (.load (stageM d) (rowR j).toLoadRect (View.loadsAt_vmem h_S512x1024)) fun w =>
  .op (.load (commM d) (slotR b j).toLoadRect (View.loadsAt_vmem h_S1x1x512x1024)) fun _ =>
  .op (.store (commM d) (slotR b j) (addPay v w) Finset.univ (View.stores_vmem_bits_univ h_S1x1x512x1024 rfl) (.inl rfl)) fun _ => k

/-- Start the copy of sub-block `j` to the result. -/
def outStart (d : Fin 2) (j : Fin 4) (n : Fin 18) (k : Pr F) : Pr F :=
  .op (.enqueueDma (slotM d 1 j) (.here (outM d j)) (.dma (locS n)) ((View.wordExact_bits rfl).reshape _ _) (View.wordExact_bits rfl) ⟨Or.inl rfl, trivial⟩) fun _ => k

/-- Wait for it. -/
def outWait (d : Fin 2) (j : Fin 4) (n : Fin 18) (k : Pr F) : Pr F :=
  .op (.waitDma2 (locS n) (slotM d 1 j) (outM d j) ((View.wordExact_bits rfl).reshape _ _) (View.wordExact_bits rfl)) fun _ => k

/-- One sub-block of one of the first two steps: receive, add, wait for the send of the step before out of the slot it leaves, give
    that slot to the neighbour `t` that sends into it, wait for the next slot of the neighbour `t'`, and send on. -/
def ringStep (t t' : Dev nD) (d b b' : Fin 2) (j : Fin 4) (k : Pr F) : Pr F :=
  recvWait d b b' j <| addStage d b j <| sendWait d b' b j <| sig1 t (freeS d j) <| waitN (freeS d j) 1 <| hopSend t' d b b' j <| k

/-- One sub-block of the last step: receive, add, and start the copy to the result. -/
def lastStep (d : Fin 2) (j : Fin 4) (n : Fin 18) (k : Pr F) : Pr F :=
  recvWait d 1 0 j <| addStage d 1 j <| outStart d j n <| k

/-- Seeds, the first stages, and the entry barrier. -/
def pHead (c : Dev nD) (k : Pr F) : Pr F :=
  seedStart 0 0 2 (k0_off1 c) (k0_off1_inb c) <|
  seedStart 0 1 3 (k0_off2 c) (k0_off2_inb c) <|
  seedStart 0 2 4 (k0_off3 c) (k0_off3_inb c) <|
  seedStart 0 3 5 (k0_off4 c) (k0_off4_inb c) <|
  seedStart 1 0 6 (k0_off5 c) (k0_off5_inb c) <|
  seedStart 1 1 7 (k0_off6 c) (k0_off6_inb c) <|
  seedStart 1 2 8 (k0_off7 c) (k0_off7_inb c) <|
  seedStart 1 3 9 (k0_off8 c) (k0_off8_inb c) <|
  stageStart 0 0 (k0_off9 c 0#32) (k0_off9_inb c 0) <|
  stageStart 1 1 (k0_off10 c 0#32) (k0_off10_inb c 0) <|
  sig1 ⟨k0_dev1 c, k0_dev1_lt c⟩ barS <|
  sig1 ⟨k0_dev2 c, k0_dev2_lt c⟩ barS <|
  waitN barS 2 <|
  seedWait 0 0 2 (k0_off1 c) (k0_off1_inb c) <|
  seedWait 0 1 3 (k0_off2 c) (k0_off2_inb c) <|
  seedWait 0 2 4 (k0_off3 c) (k0_off3_inb c) <|
  seedWait 0 3 5 (k0_off4 c) (k0_off4_inb c) <|
  seedWait 1 0 6 (k0_off5 c) (k0_off5_inb c) <|
  seedWait 1 1 7 (k0_off6 c) (k0_off6_inb c) <|
  seedWait 1 2 8 (k0_off7 c) (k0_off7_inb c) <|
  seedWait 1 3 9 (k0_off8 c) (k0_off8_inb c) <|
  k

/-- The first hop of every sub-block. -/
def pHop0 (c : Dev nD) (k : Pr F) : Pr F :=
  hopSend ⟨k0_dev3 c, k0_dev3_lt c⟩ 0 0 1 0 <|
  hopSend ⟨k0_dev4 c, k0_dev4_lt c⟩ 1 0 1 0 <|
  hopSend ⟨k0_dev5 c, k0_dev5_lt c⟩ 0 0 1 1 <|
  hopSend ⟨k0_dev6 c, k0_dev6_lt c⟩ 1 0 1 1 <|
  hopSend ⟨k0_dev7 c, k0_dev7_lt c⟩ 0 0 1 2 <|
  hopSend ⟨k0_dev8 c, k0_dev8_lt c⟩ 1 0 1 2 <|
  hopSend ⟨k0_dev9 c, k0_dev9_lt c⟩ 0 0 1 3 <|
  hopSend ⟨k0_dev10 c, k0_dev10_lt c⟩ 1 0 1 3 <|
  k

/-- The first step of the ring. -/
def pStep0 (c : Dev nD) (k : Pr F) : Pr F :=
  stageWait 0 0 (k0_off9 c 0#32) (k0_off9_inb c 0) <|
  stageWait 1 1 (k0_off10 c 0#32) (k0_off10_inb c 0) <|
  ringStep ⟨k0_dev11 c, k0_dev11_lt c⟩ ⟨k0_dev12 c, k0_dev12_lt c⟩ 0 1 0 0 <|
  ringStep ⟨k0_dev13 c, k0_dev13_lt c⟩ ⟨k0_dev14 c, k0_dev14_lt c⟩ 1 1 0 0 <|
  ringStep ⟨k0_dev15 c, k0_dev15_lt c⟩ ⟨k0_dev16 c, k0_dev16_lt c⟩ 0 1 0 1 <|
  ringStep ⟨k0_dev17 c, k0_dev17_lt c⟩ ⟨k0_dev18 c, k0_dev18_lt c⟩ 1 1 0 1 <|
  ringStep ⟨k0_dev19 c, k0_dev19_lt c⟩ ⟨k0_dev20 c, k0_dev20_lt c⟩ 0 1 0 2 <|
  ringStep ⟨k0_dev21 c, k0_dev21_lt c⟩ ⟨k0_dev22 c, k0_dev22_lt c⟩ 1 1 0 2 <|
  ringStep ⟨k0_dev23 c, k0_dev23_lt c⟩ ⟨k0_dev24 c, k0_dev24_lt c⟩ 0 1 0 3 <|
  ringStep ⟨k0_dev25 c, k0_dev25_lt c⟩ ⟨k0_dev26 c, k0_dev26_lt c⟩ 1 1 0 3 <|
  stageStart 0 0 (k0_off9 c 4294967295#32) (k0_off9_inb c 1) <|
  stageStart 1 1 (k0_off10 c 1#32) (k0_off10_inb c 1) <|
  k

/-- The second step. -/
def pStep1 (c : Dev nD) (k : Pr F) : Pr F :=
  stageWait 0 0 (k0_off9 c 4294967295#32) (k0_off9_inb c 1) <|
  stageWait 1 1 (k0_off10 c 1#32) (k0_off10_inb c 1) <|
  ringStep ⟨k0_dev27 c, k0_dev27_lt c⟩ ⟨k0_dev28 c, k0_dev28_lt c⟩ 0 0 1 0 <|
  ringStep ⟨k0_dev29 c, k0_dev29_lt c⟩ ⟨k0_dev30 c, k0_dev30_lt c⟩ 1 0 1 0 <|
  ringStep ⟨k0_dev31 c, k0_dev31_lt c⟩ ⟨k0_dev32 c, k0_dev32_lt c⟩ 0 0 1 1 <|
  ringStep ⟨k0_dev33 c, k0_dev33_lt c⟩ ⟨k0_dev34 c, k0_dev34_lt c⟩ 1 0 1 1 <|
  ringStep ⟨k0_dev35 c, k0_dev35_lt c⟩ ⟨k0_dev36 c, k0_dev36_lt c⟩ 0 0 1 2 <|
  ringStep ⟨k0_dev37 c, k0_dev37_lt c⟩ ⟨k0_dev38 c, k0_dev38_lt c⟩ 1 0 1 2 <|
  ringStep ⟨k0_dev39 c, k0_dev39_lt c⟩ ⟨k0_dev40 c, k0_dev40_lt c⟩ 0 0 1 3 <|
  ringStep ⟨k0_dev41 c, k0_dev41_lt c⟩ ⟨k0_dev42 c, k0_dev42_lt c⟩ 1 0 1 3 <|
  stageStart 0 0 (k0_off9 c 4294967294#32) (k0_off9_inb c 2) <|
  stageStart 1 1 (k0_off10 c 2#32) (k0_off10_inb c 2) <|
  k

/-- The last step. -/
def pStep2 (c : Dev nD) (k : Pr F) : Pr F :=
  stageWait 0 0 (k0_off9 c 4294967294#32) (k0_off9_inb c 2) <|
  stageWait 1 1 (k0_off10 c 2#32) (k0_off10_inb c 2) <|
  lastStep 0 0 10 <|
  lastStep 1 0 11 <|
  lastStep 0 1 12 <|
  lastStep 1 1 13 <|
  lastStep 0 2 14 <|
  lastStep 1 2 15 <|
  lastStep 0 3 16 <|
  lastStep 1 3 17 <|
  k

/-- The waits at the end. -/
def pTail (c : Dev nD) (k : Pr F) : Pr F :=
  sendWait 0 0 1 0 <|
  sendWait 1 0 1 0 <|
  sendWait 0 0 1 1 <|
  sendWait 1 0 1 1 <|
  sendWait 0 0 1 2 <|
  sendWait 1 0 1 2 <|
  sendWait 0 0 1 3 <|
  sendWait 1 0 1 3 <|
  outWait 0 0 10 <|
  outWait 1 0 11 <|
  outWait 0 1 12 <|
  outWait 1 1 13 <|
  outWait 0 2 14 <|
  outWait 1 2 15 <|
  outWait 0 3 16 <|
  outWait 1 3 17 <|
  k

/-- The body after it has read its device's number. -/
def pBody (c : Dev nD) : Pr F := pHead c <| pHop0 c <| pStep0 c <| pStep1 c <| pStep2 c <| pTail c <| .ret PUnit.unit

set_option maxRecDepth 100000 in
set_option maxHeartbeats 0 in
/-- The printed body is the sequence of steps. -/
theorem body_eq (t : Fin cfg0.N) : bodyAt0 (F := F) t = .op .deviceId fun c => pBody c := by
  unfold bodyAt0
  rw [cc0_body_eq_skeleton]; unfold cc0_body_skel
  rw [k0_part50_eq_skeleton]; unfold k0_part50_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel
  simp only [Prog.lift, Prog.bind_op, Prog.bind_ret, Prog.pure_eq_ret, Prog.bind_assoc, semSignalWord, semWaitWord]
  rfl

end Cert.KernelIdeal.Pf

end
-- ==== Proof.KernelIdealSched.lean ====
/-
# The ring's contents, its cells, and what each cell hands over

Two rings run at once, direction `0` clockwise and direction `1` counter-clockwise, each over four sub-blocks. This module says what
each sub-block holds before each hop (`acc`), names the semaphores' cells, and gives their schedule: in which round a cell is paid, by
how much, and what the payment hands to the waiter. Then the order in which a device pays its neighbours, and the levels that make the
waits well-founded.
-/
module

public import proofs.«01_k».proof.Proof.KernelIdealProg
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

/-- The pipeline's own rounds: the left factor. -/
abbrev EP : Emb (UR sig nD τ) (MT nD τ sig ℕ (Elt F) ℕ UU ℕ) := embL
/-- The ring's rounds: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance

abbrev defs𝒱 : Variants := Variants.none

/-! ## The ring -/

set_option backward.proofsInPublic true in
/-- The device at distance `n` clockwise from `c`. -/
def go (n : ℕ) (c : Dev nD) : Dev nD := ⟨(c.val + n) % 4, Nat.mod_lt _ (by decide)⟩
/-- The device that `c` sends to in direction `d`. -/
def down (d : Fin 2) (c : Dev nD) : Dev nD := match d with | 0 => go 1 c | 1 => go 3 c
/-- The device that sends to `c` in direction `d`. -/
def up (d : Fin 2) (c : Dev nD) : Dev nD := match d with | 0 => go 3 c | 1 => go 1 c
theorem down_up (d : Fin 2) (c : Dev nD) : down d (up d c) = c := by revert d c; decide
theorem up_down (d : Fin 2) (c : Dev nD) : up d (down d c) = c := by revert d c; decide
/-- The other slot. -/
def fl (s : Fin 2) : Fin 2 := match s with | 0 => 1 | 1 => 0

/-! ## Contents -/

variable (m : (ℓ : Loc nD τ sig) → Buf (Elt F) ℓ)

abbrev Blk (F : FTy → Type) [FloatOps F] : Type := S512x1024.Idx → Elt F .f32

/-- The argument on device `c`. -/
abbrev xOf (c : Dev nD) : Buf (Elt F) ((c : Thread nD τ).loc main_arg0) := m ((c : Thread nD τ).loc main_arg0)

def seedOff (d : Fin 2) (j : Fin 4) (c : Dev nD) : Fin 3 → ℕ := ![0, 2048 * d.val + 512 * j.val, 1024 * ((c.val + (3 - 2 * d.val)) % 4)]
theorem seedOff_inb (d : Fin 2) (j : Fin 4) (c : Dev nD) : ∀ a, seedOff d j c a + S1x512x1024.size a ≤ S1x4096x4096.size a := by
  revert d j c; decide +kernel
def chunkOff (s : ℕ) (d : Fin 2) (c : Dev nD) : Fin 3 → ℕ := ![0, 2048 * d.val, 1024 * ((c.val + 2 + s * (3 - 2 * d.val)) % 4)]
theorem chunkOff_inb (s : ℕ) (d : Fin 2) (c : Dev nD) : ∀ a, chunkOff s d c a + S1x2048x1024.size a ≤ S1x4096x4096.size a := by
  have h : (c.val + 2 + s * (3 - 2 * d.val)) % 4 < 4 := Nat.mod_lt _ (by decide)
  have hd := d.isLt
  intro a
  match a with
  | 0 => show 0 + 1 ≤ 1; omega
  | 1 => show 2048 * d.val + 2048 ≤ 4096; omega
  | 2 => show 1024 * ((c.val + 2 + s * (3 - 2 * d.val)) % 4) + 1024 ≤ 4096; omega

/-- The seed of sub-block `j` on device `c`: a piece of its own argument. -/
def seedV (c : Dev nD) (d : Fin 2) (j : Fin 4) : Blk F := (seedM (seedOff d j c) (seedOff_inb d j c)).view.read (Elt F) (xOf m c)
/-- What the stage of step `s` holds on device `c`. -/
def stageV (s : ℕ) (c : Dev nD) (d : Fin 2) : S2048x1024.Idx → Elt F .f32 := (chunkM (chunkOff s d c) (chunkOff_inb s d c)).view.read (Elt F) (xOf m c)
/-- Its rows of sub-block `j`. -/
def rowsV (s : ℕ) (c : Dev nD) (d : Fin 2) (j : Fin 4) : Blk F := fun i => stageV m s c d ((rowR j).emb i)

/-- What device `c` holds for sub-block `j` of direction `d` before hop `h`. -/
def acc : ℕ → Dev nD → Fin 2 → Fin 4 → Blk F
  | 0, c, d, j => seedV m c d j
  | h + 1, c, d, j => addf (acc h (up d c) d j) (rowsV m h c d j)

/-! ## The cells -/

/-- The kinds of semaphore the ring knows. -/
inductive Kd where
  | bar
  | snd (d b : Fin 2) (j : Fin 4)
  | rcv (d b : Fin 2) (j : Fin 4)
  | fre (d : Fin 2) (j : Fin 4)
  | oth
deriving DecidableEq

def fin2 (n : ℕ) : Fin 2 := if n % 2 = 0 then 0 else 1
def fin4 (n : ℕ) : Fin 4 := if n % 4 = 0 then 0 else if n % 4 = 1 then 1 else if n % 4 = 2 then 2 else 3

/-- What a semaphore is, from its number. -/
def kd : SemLoc sig → Kd
  | .dma q => if q.val < 32 then (if q.val / 8 % 2 = 0 then .snd (fin2 (q.val / 16)) (fin2 (q.val / 4)) (fin4 q.val)
      else .rcv (fin2 (q.val / 16)) (fin2 (q.val / 4)) (fin4 q.val)) else .oth
  | .reg s => if s.val < 8 then .fre (fin2 (s.val / 4)) (fin4 s.val) else .bar

theorem kd_snd (d b : Fin 2) (j : Fin 4) : kd (.dma (sendS d b j)) = .snd d b j := by revert d b j; decide +kernel
theorem kd_rcv (d b : Fin 2) (j : Fin 4) : kd (.dma (recvS d b j)) = .rcv d b j := by revert d b j; decide +kernel
theorem kd_fre (d : Fin 2) (j : Fin 4) : kd (.reg (freeS d j)) = .fre d j := by revert d j; decide +kernel
theorem kd_bar : kd (.reg barS) = .bar := by decide +kernel
theorem kd_loc (n : Fin 18) : kd (.dma (locS n)) = .oth := by revert n; decide +kernel

abbrev barC (c : Dev nD) : GSem nD τ sig := ((c : Thread nD τ), .reg barS)
abbrev sndC (c : Dev nD) (d b : Fin 2) (j : Fin 4) : GSem nD τ sig := ((c : Thread nD τ), .dma (sendS d b j))
abbrev rcvC (c : Dev nD) (d b : Fin 2) (j : Fin 4) : GSem nD τ sig := ((c : Thread nD τ), .dma (recvS d b j))
abbrev freC (c : Dev nD) (d : Fin 2) (j : Fin 4) : GSem nD τ sig := ((c : Thread nD τ), .reg (freeS d j))

/-- The ring's cells of one device: sends, receives, the slots given back, the barrier. -/
abbrev KI : Type := (Fin 2 × Fin 2 × Fin 4) ⊕ (Fin 2 × Fin 2 × Fin 4) ⊕ (Fin 2 × Fin 4) ⊕ Unit
def smOf : KI → SemLoc sig
  | .inl (d, b, j) => .dma (sendS d b j)
  | .inr (.inl (d, b, j)) => .dma (recvS d b j)
  | .inr (.inr (.inl (d, j))) => .reg (freeS d j)
  | .inr (.inr (.inr _)) => .reg barS
abbrev kcell (ck : Dev nD × KI) : GSem nD τ sig := ((ck.1 : Thread nD τ), smOf ck.2)

def kdOf : KI → Kd
  | .inl (d, b, j) => .snd d b j
  | .inr (.inl (d, b, j)) => .rcv d b j
  | .inr (.inr (.inl (d, j))) => .fre d j
  | .inr (.inr (.inr _)) => .bar
theorem kd_smOf (i : KI) : kd (smOf i) = kdOf i := by
  match i with
  | .inl (d, b, j) => exact kd_snd d b j
  | .inr (.inl (d, b, j)) => exact kd_rcv d b j
  | .inr (.inr (.inl (d, j))) => exact kd_fre d j
  | .inr (.inr (.inr _)) => exact kd_bar
theorem kdOf_inj : Function.Injective kdOf := by
  intro a b h
  match a, b with
  | .inl (d, b, j), .inl (d', b', j') => simp only [kdOf, Kd.snd.injEq] at h; obtain ⟨rfl, rfl, rfl⟩ := h; rfl
  | .inr (.inl (d, b, j)), .inr (.inl (d', b', j')) => simp only [kdOf, Kd.rcv.injEq] at h; obtain ⟨rfl, rfl, rfl⟩ := h; rfl
  | .inr (.inr (.inl (d, j))), .inr (.inr (.inl (d', j'))) => simp only [kdOf, Kd.fre.injEq] at h; obtain ⟨rfl, rfl⟩ := h; rfl
  | .inr (.inr (.inr _)), .inr (.inr (.inr _)) => rfl
  | .inl (d, b, j), .inr (.inl (d', b', j')) => cases h
  | .inl (d, b, j), .inr (.inr (.inl (d', j'))) => cases h
  | .inl (d, b, j), .inr (.inr (.inr _)) => cases h
  | .inr (.inl (d, b, j)), .inl (d', b', j') => cases h
  | .inr (.inl (d, b, j)), .inr (.inr (.inl (d', j'))) => cases h
  | .inr (.inl (d, b, j)), .inr (.inr (.inr _)) => cases h
  | .inr (.inr (.inl (d, j))), .inl (d', b', j') => cases h
  | .inr (.inr (.inl (d, j))), .inr (.inl (d', b', j')) => cases h
  | .inr (.inr (.inl (d, j))), .inr (.inr (.inr _)) => cases h
  | .inr (.inr (.inr _)), .inl (d', b', j') => cases h
  | .inr (.inr (.inr _)), .inr (.inl (d', b', j')) => cases h
  | .inr (.inr (.inr _)), .inr (.inr (.inl (d', j'))) => cases h
theorem smOf_inj : Function.Injective smOf := fun a b h => kdOf_inj (by rw [← kd_smOf, ← kd_smOf, h])
theorem kcell_inj : Function.Injective kcell := by
  rintro ⟨c, i⟩ ⟨c', i'⟩ h
  have h1 : c = c' := congrArg (fun g : GSem nD τ sig => g.1.1) h
  have h2 : smOf i = smOf i' := congrArg (fun g : GSem nD τ sig => g.2) h
  rw [h1, smOf_inj h2]

/-- The credit of one sub-block's copy. -/
def N : ℕ := (slotM 0 0 0).view.dmaCredit
theorem N_pos : 0 < N := View.dmaCredit_pos _ (by decide)
theorem slot_credit (d b : Fin 2) (j : Fin 4) : (slotM d b j).view.dmaCredit = N := by
  match d with
  | 0 => rfl
  | 1 => rfl

/-! ## What is handed over -/

/-- Sub-block `j` of slot `b` on device `c`, holding `X`. -/
def slotAt (c : Dev nD) (d b : Fin 2) (j : Fin 4) (X : Blk F) : sProp 𝕄 := owns (c : Thread nD τ) (slotM d b j) fullShare X
/-- The same, holding anything. -/
def slotAny (c : Dev nD) (d b : Fin 2) (j : Fin 4) : sProp 𝕄 := iprop(∃ X, slotAt (F := F) c d b j X)

omit [FloatOps F] in
instance slotAt_storable [FloatOps F] (c : Dev nD) (d b : Fin 2) (j : Fin 4) (X : Blk F) : BI.Storable (upEmb : UEmb _ 𝕄) (slotAt (F := F) c d b j X) := by
  unfold slotAt; infer_instance
instance slotAny_storable (c : Dev nD) (d b : Fin 2) (j : Fin 4) : BI.Storable (upEmb : UEmb _ 𝕄) (slotAny (F := F) c d b j) := by
  unfold slotAny; infer_instance

/-- At the barrier: the second slot of every sub-block of direction `d` on the device `c` sends to. -/
def barPay (d : Fin 2) (c : Dev nD) : sProp 𝕄 :=
  iprop(slotAny (F := F) (down d c) d 1 0 ∗ slotAny (F := F) (down d c) d 1 1 ∗ slotAny (F := F) (down d c) d 1 2 ∗ slotAny (F := F) (down d c) d 1 3)
/-- At a send's completion: the slot it read, holding what was sent. -/
def sndPay (c : Dev nD) (d b : Fin 2) (j : Fin 4) (r : ℕ) : sProp 𝕄 := slotAt (F := F) c d b j (acc m (b.val + 2 * r) c d j)
/-- At an arrival: the slot written, holding what the neighbour sent; and the neighbour's last slot was received by it. -/
def rcvPay (c : Dev nD) (d b : Fin 2) (j : Fin 4) (r : ℕ) : sProp 𝕄 :=
  iprop(slotAt (F := F) c d b j (acc m (1 - b.val + 2 * r) (up d c) d j) ∗ reached ER (freC (up d c) d j) (1 - b.val + 2 * r))
/-- When a slot is given: the slot `r` of the device `c` sends to, which has waited for the rounds before of its receive cell. -/
def frePay (c : Dev nD) (d : Fin 2) (j : Fin 4) (r : ℕ) : sProp 𝕄 :=
  iprop(slotAny (F := F) (down d c) d (fin2 r) j ∗ reached ER (rcvC (down d c) d (fin2 r) j) r)

instance barPay_storable (d : Fin 2) (c : Dev nD) : BI.Storable (upEmb : UEmb _ 𝕄) (barPay (F := F) d c) := by unfold barPay; infer_instance
instance sndPay_storable (c : Dev nD) (d b : Fin 2) (j : Fin 4) (r : ℕ) : BI.Storable (upEmb : UEmb _ 𝕄) (sndPay m c d b j r) := by unfold sndPay; infer_instance
instance rcvPay_storable (c : Dev nD) (d b : Fin 2) (j : Fin 4) (r : ℕ) : BI.Storable (upEmb : UEmb _ 𝕄) (rcvPay m c d b j r) := by unfold rcvPay; infer_instance
instance frePay_storable (c : Dev nD) (d : Fin 2) (j : Fin 4) (r : ℕ) : BI.Storable (upEmb : UEmb _ 𝕄) (frePay (F := F) c d j r) := by unfold frePay; infer_instance

/-- How many rounds a cell has. -/
def nR : Kd → ℕ
  | .bar => 1
  | .snd _ b _ => 2 - b.val
  | .rcv _ b _ => 1 + b.val
  | .fre _ _ => 2
  | .oth => 0

def dirOf (t : Bool) : Fin 2 := if t then 0 else 1

def payOf (c : Dev nD) : Kd → ℕ → Bool → sProp 𝕄
  | .bar, _, t => barPay (dirOf t) c
  | .snd d b j, r, _ => sndPay m c d b j r
  | .rcv d b j, r, _ => rcvPay m c d b j r
  | .fre d j, r, _ => frePay c d j r
  | .oth, _, _ => iprop(emp)

instance payOf_storable (c : Dev nD) (k : Kd) (r : ℕ) (t : Bool) : BI.Storable (upEmb : UEmb _ 𝕄) (payOf m c k r t) := by
  cases k <;> unfold payOf <;> infer_instance

def amtOf : Kd → ℕ
  | .bar => 1
  | .fre _ _ => 1
  | _ => N
theorem amtOf_pos (k : Kd) : 0 < amtOf k := by cases k <;> first | exact Nat.one_pos | exact N_pos

/-- The schedule: the barrier's one round has two duties, every other round one. -/
def Rd : Rounds.Schedule (GSem nD τ sig) Bool 𝕄 where
  duties g r := if g.1.2 = .tc ∧ r < nR (kd g.2) then (if kd g.2 = .bar then Finset.univ else {false}) else ∅
  unitless _ := False
  amount g _ _ := amtOf (kd g.2)
  payload g r t := payOf m g.1.1 (kd g.2) r t
  amount_pos g _ _ _ := amtOf_pos _

instance Rd_storable (g : GSem nD τ sig) (r : ℕ) (t : Bool) : BI.Storable (upEmb : UEmb _ 𝕄) ((Rd m).payload g r t) := by
  show BI.Storable upEmb (payOf m g.1.1 (kd g.2) r t); infer_instance

section Sched
variable (c : Dev nD) (sm : SemLoc sig)

theorem duties_one (k : Kd) (hk : kd sm = k) (hb : k ≠ .bar) (r : ℕ) (hr : r < nR k) : (Rd m).duties ((c : Thread nD τ), sm) r = {false} := by
  subst hk; dsimp only [Rd]; rw [if_pos ⟨rfl, hr⟩, if_neg hb]
theorem duties_bar : (Rd m).duties (barC c) 0 = Finset.univ := by
  dsimp only [Rd]; rw [kd_bar]; rfl
theorem duties_end (k : Kd) (hk : kd sm = k) : ∀ r, nR k ≤ r → (Rd m).duties ((c : Thread nD τ), sm) r = ∅ := by
  subst hk; intro r hr; dsimp only [Rd]; rw [if_neg fun h => absurd h.2 (Nat.not_lt.mpr hr)]
theorem amount_eq (k : Kd) (hk : kd sm = k) (r : ℕ) (t : Bool) : (Rd m).amount ((c : Thread nD τ), sm) r t = amtOf k := by
  subst hk; rfl
theorem payload_eq (k : Kd) (hk : kd sm = k) (r : ℕ) (t : Bool) : (Rd m).payload ((c : Thread nD τ), sm) r t = payOf m c k r t := by
  subst hk; rfl
theorem expect_one (k : Kd) (hk : kd sm = k) (hb : k ≠ .bar) (r : ℕ) (hr : r < nR k) : (Rd m).expect ((c : Thread nD τ), sm) r = amtOf k := by
  unfold Schedule.expect Schedule.amountOf; rw [duties_one m c sm k hk hb r hr, Finset.sum_singleton, amount_eq m c sm k hk]
theorem expect_bar : (Rd m).expect (barC c) 0 = 2 := by
  unfold Schedule.expect Schedule.amountOf
  rw [duties_bar, Finset.sum_congr rfl fun d _ => amount_eq m c _ .bar kd_bar 0 d]; rfl
theorem rest_one (k : Kd) (hk : kd sm = k) (hb : k ≠ .bar) (r : ℕ) (hr : r < nR k) :
    bigSep ((Rd m).duties ((c : Thread nD τ), sm) r \ ∅) (fun t => (Rd m).payload ((c : Thread nD τ), sm) r t) = payOf m c k r false := by
  rw [Finset.sdiff_empty, duties_one m c sm k hk hb r hr, bigSep_singleton, payload_eq m c sm k hk]
theorem rest_bar :
    bigSep ((Rd m).duties (barC c) 0 \ ∅) (fun t => (Rd m).payload (barC c) 0 t) = iprop(barPay (F := F) 0 c ∗ barPay (F := F) 1 c) := by
  rw [Finset.sdiff_empty, duties_bar, bigSep_univ_eq_bigSepL [true, false] (by decide) (by decide), bigSepL_cons_cons, bigSepL_singleton,
    payload_eq m c _ .bar kd_bar, payload_eq m c _ .bar kd_bar]
  rfl

end Sched

/-! ## What a device owes, in the order it pays -/

/-- A payment to a neighbour: a barrier signal, the landing of hop `h`, a slot given back after step `s`. -/
inductive Due where
  | bar (d : Fin 2)
  | snd (h : Fin 3) (d : Fin 2) (j : Fin 4)
  | fre (s : Fin 2) (d : Fin 2) (j : Fin 4)

/-- The slot that hop `h` writes. -/
def hs (h : Fin 3) : Fin 2 := match h with | 0 => 1 | 1 => 0 | 2 => 1
/-- The round of that slot's receive cell. -/
def hr (h : Fin 3) : ℕ := match h with | 0 => 0 | 1 => 0 | 2 => 1

def dueC (c : Dev nD) : Due → GSem nD τ sig
  | .bar d => barC (up d c)
  | .snd h d j => rcvC (down d c) d (hs h) j
  | .fre _ d j => freC (up d c) d j
def dueIx : Due → ℕ
  | .bar _ => 0
  | .snd h _ _ => hr h
  | .fre s _ _ => s.val
def dueN : Due → ℕ
  | .bar _ => 1
  | .snd _ _ _ => N
  | .fre _ _ _ => 1
def dueLv : Due → ℕ
  | .bar _ => 1
  | .snd h d j => 2 + 4 * (8 * h.val + 2 * j.val + d.val)
  | .fre s d j => 3 + 4 * (8 * s.val + 2 * j.val + d.val)

def owed (c : Dev nD) : List Due → CellTallies nD τ sig ℕ
  | [] => 0
  | x :: l => owed c l + tallyAt (dueC c x) (dueIx x) (dueN x)

def lvK : Kd → ℕ → ℕ
  | .bar, _ => 1
  | .rcv d b j, r => 2 + 4 * (8 * (1 - b.val + 2 * r) + 2 * j.val + d.val)
  | .fre d j, r => 3 + 4 * (8 * r + 2 * j.val + d.val)
  | _, _ => 0

def L (g : GSem nD τ sig) : Finset ℕ := if g.1.2 = .tc then {0, 1} else ∅
def lv (g : GSem nD τ sig) (i : ℕ) : ℕ := lvK (kd g.2) i

theorem L_of_ne (g : GSem nD τ sig) (h : g.1.2 ≠ .tc) : L g = ∅ := if_neg h
theorem L_tc (c : Dev nD) (sm : SemLoc sig) : L ((c : Thread nD τ), sm) = {0, 1} := if_pos rfl

theorem lv_due (c : Dev nD) (x : Due) : lv (dueC c x) (dueIx x) = dueLv x := by
  match x with
  | .bar d => show lvK (kd (.reg barS)) 0 = 1; rw [kd_bar]; rfl
  | .snd h d j =>
    show lvK (kd (.dma (recvS d (hs h) j))) (hr h) = _
    rw [kd_rcv]
    match h with
    | 0 => rfl
    | 1 => rfl
    | 2 => rfl
  | .fre s d j => show lvK (kd (.reg (freeS d j))) s.val = _; rw [kd_fre]; rfl
theorem ix_due (c : Dev nD) (x : Due) : dueIx x ∈ L (dueC c x) := by
  have h : dueIx x ∈ ({0, 1} : Finset ℕ) := by
    match x with
    | .bar d => exact Finset.mem_insert_self _ _
    | .snd h d j =>
      match h with
      | 0 => exact Finset.mem_insert_self _ _
      | 1 => exact Finset.mem_insert_self _ _
      | 2 => exact Finset.mem_insert_of_mem (Finset.mem_singleton_self _)
    | .fre s d j =>
      match s with
      | 0 => exact Finset.mem_insert_self _ _
      | 1 => exact Finset.mem_insert_of_mem (Finset.mem_singleton_self _)
  cases x <;> exact h

theorem owed_pos {c : Dev nD} {g : GSem nD τ sig} {i : ℕ} : ∀ l : List Due, 0 < owed c l g i → ∃ x ∈ l, g = dueC c x ∧ i = dueIx x
  | [], h => absurd h (Nat.lt_irrefl 0)
  | x :: l, h => by
    unfold owed at h
    rw [Pi.add_apply, Finsupp.add_apply, tallyAt_apply] at h
    by_cases hx : g = dueC c x ∧ i = dueIx x
    · exact ⟨x, List.mem_cons_self, hx⟩
    · rw [if_neg hx, Nat.add_zero] at h
      obtain ⟨y, hy, h'⟩ := owed_pos l h
      exact ⟨y, List.mem_cons_of_mem _ hy, h'⟩

/-- Whether every payment of the list lies above level `n`. -/
def above (n : ℕ) (l : List Due) : Bool := l.all fun x => decide (n < dueLv x)

/-- A device may wait on a cell of its own while all it owes lies above that cell. -/
theorem mayWait (c : Dev nD) (sm : SemLoc sig) (i : ℕ) (l : List Due) (hi : i = 0 ∨ i = 1) (h : above (lvK (kd sm) i) l = true) :
    (levAts L lv : sProp 𝕄) ⊢ MayWait (c : Thread nD τ) sm i (owed c l) := by
  have hl : ∀ x ∈ l, lvK (kd sm) i < dueLv x := fun x hx => of_decide_eq_true (List.all_eq_true.mp h x hx)
  refine MayOwe.of_cut (L := L) (lev := lv) (lvK (kd sm) i) (fun p hp => ?_) (fun g u hg => ?_) (fun p hp => ?_) (fun g u hg => ?_)
  · rw [Finset.mem_singleton.mp hp, L_tc]; rcases hi with rfl | rfl
    · exact Finset.mem_insert_self _ _
    · exact Finset.mem_insert_of_mem (Finset.mem_singleton_self _)
  · obtain ⟨x, -, rfl, rfl⟩ := owed_pos l hg; exact ix_due c x
  · rw [Finset.mem_singleton.mp hp]; exact le_rfl
  · obtain ⟨x, hx, rfl, rfl⟩ := owed_pos l hg; rw [lv_due]; exact hl x hx

end Cert.KernelIdeal.Pf
-- ==== Proof.KernelIdealSteps.lean ====
/-
# One lemma per step of the program

Each step named in the program module, with what it takes and what it leaves, for any direction, slot and sub-block.
-/
module

public import proofs.«01_k».proof.Proof.KernelIdealSched
public import Idealize.ShloMosaic.Lib.Pipeline.Value

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-- The program `p` runs on device `c` to `Q`. -/
abbrev WP (c : Dev nD) (p : Pr F) (Q : PUnit → sProp 𝕄) : sProp 𝕄 :=
  wp frame (wpE (defs₀ (F := F)) defs𝒱 (c : Thread nD τ) none) Set.univ p Q

/-- What the device still owes, whatever it has waited for. -/
def Ow (c : Dev nD) (l : List Due) : sProp 𝕄 := iprop(∃ W, owes (c : Thread nD τ) (owed c l) W)

/-- A copy in flight on local semaphore `n`, of credit `A`, delivering `D`. -/
def Fly (c : Dev nD) (n : Fin 18) (A : ℕ) (D : sProp 𝕄) : sProp 𝕄 :=
  Flight (countersEmb : UEmb Counters 𝕄) (c : Thread nD τ) (.dma (locS n)) 0 A D
def locV (c : Dev nD) (n : Fin 18) : sProp 𝕄 := semVal ((c : Thread nD τ), .dma (locS n)) 0

/-- The argument at a share. -/
def xAt (c : Dev nD) (q : PosShare TreeShare) : sProp 𝕄 := (c : Thread nD τ).loc main_arg0 ↦{q} xOf m c
/-- A stage holding `Y`. -/
def stgAt (c : Dev nD) (d : Fin 2) (Y : S2048x1024.Idx → Elt F .f32) : sProp 𝕄 := owns (c : Thread nD τ) (stageM d) fullShare Y
def stgAny (c : Dev nD) (d : Fin 2) : sProp 𝕄 := iprop(∃ Y, stgAt (F := F) c d Y)
/-- Rows of the result holding `X`. -/
def outAt (c : Dev nD) (d : Fin 2) (j : Fin 4) (X : Blk F) : sProp 𝕄 := owns (c : Thread nD τ) (outM d j) fullShare X
def outAny (c : Dev nD) (d : Fin 2) (j : Fin 4) : sProp 𝕄 := iprop(∃ X, outAt (F := F) c d j X)

/-- A piece of the argument, out of a share of it. -/
theorem x_carve (c : Dev nD) (q : PosShare TreeShare) (I : Finset (Idx ((c : Thread nD τ).loc main_arg0))) :
    xAt m c q ⊢ ((c : Thread nD τ).loc main_arg0 ↦[I]{q} xOf m c : sProp 𝕄) := by
  unfold xAt
  iintro H
  ihave H2 := (pointsTo_split_subset (Finset.subset_univ I)).1 $$ H
  icases H2 with ⟨H, -⟩
  iexact H

/-- A view just written whole holds what was written. -/
theorem owns_landed (c : Dev nD) {sp : Space} {sh : Shape} (v : Memref sig .tc sp sh .f32) (f : v.view.ty.Contents (Elt F)) (w w' : sh.Idx → Elt F .f32)
    (hw : w = w') :
    (v.view.loc (c : Thread nD τ) ↦[v.view.set]{fullShare} (v.view.write (Elt F) f w Finset.univ) : sProp 𝕄) ⊢ owns (c : Thread nD τ) v fullShare w' := by
  subst hw
  refine (owns_intro (c : Thread nD τ) v fullShare _).trans (Entails.of_eq ?_)
  rw [View.read_write_univ]

/-! ## Local copies -/

theorem seedStart_wp (c : Dev nD) (d : Fin 2) (j : Fin 4) (n : Fin 18) (off : Fin 3 → ℕ) (h) (hoff : off = seedOff d j c)
    (q : PosShare TreeShare) (k : Pr F) (Q : PUnit → sProp 𝕄) :
    iprop(xAt m c q ∗ slotAny (F := F) c d 0 j ∗ locV (F := F) c n)
      ⊢ iprop((Fly c n N (slotAt c d 0 j (seedV m c d j)) -∗ WP c k Q) -∗ WP c (seedStart d j n off h k) Q) := by
  subst hoff
  unfold slotAny locV seedStart
  iintro ⟨Hx, ⟨%X, Hs⟩, Hv⟩ Hk
  unfold slotAt owns
  icases Hs with ⟨%f, %hf, Hs⟩
  iapply (wp_dmaLocal (countersEmb : UEmb Counters 𝕄) defs𝒱 (c : Thread nD τ) none (src := seedM (seedOff d j c) h) (dst := slotM d 0 j)
      (q := q) (fs := xOf m c) (fd := f) (sm := .dma (locS n)) 0 N (slot_credit d 0 j) N_pos (Finset.Subset.refl _)) $$ [Hx Hs Hv]
  · isplitl [Hx]; · iapply (x_carve m c q _); iexact Hx
    isplitl [Hs]; · iexact Hs
    iexact Hv
  iintro Hfl
  iapply Hk
  unfold Fly
  iapply (Flight_mono (countersEmb : UEmb Counters 𝕄) (c : Thread nD τ) (Laws.sep_and.trans (and_elimL.trans (owns_landed c (slotM d 0 j) f _ _ rfl)))) $$ Hfl

theorem seedWait_wp (c : Dev nD) (d : Fin 2) (j : Fin 4) (n : Fin 18) (off : Fin 3 → ℕ) (h) (l : List Due) (hl : above 0 l = true)
    (D : sProp 𝕄) (k : Pr F) (Q : PUnit → sProp 𝕄) :
    iprop(levAts L lv ∗ Fly (F := F) c n N D ∗ Ow (F := F) c l)
      ⊢ iprop(((D ∗ locV (F := F) c n ∗ Ow (F := F) c l) -∗ WP c k Q) -∗ WP c (seedWait d j n off h k) Q) := by
  unfold Fly Ow locV seedWait
  iintro ⟨Hl, Hf, ⟨%W, HO⟩⟩ Hk
  iapply (wp_waitLocalO (countersEmb : UEmb Counters 𝕄) defs𝒱 (c : Thread nD τ) none (W := W) (srcw := seedM off h) (hsrc := (View.wordExact_bits rfl).reshape _ _) (hdst := (View.wordExact_bits rfl).reshape _ _) 0 (slot_credit d 0 j)) $$ [Hl Hf HO]
  · isplitl [Hf]; · iexact Hf
    isplitl [HO]; · iexact HO
    iapply (mayWait (F := F) c _ 0 l (.inl rfl) (by rw [kd_loc]; exact hl)); iexact Hl
  iintro ⟨HD, Hv, HO⟩
  iapply Hk
  isplitl [HD]; · iexact HD
  isplitl [Hv]; · iexact Hv
  iexists _; iexact HO

/-- The credit of a stage. -/
def NS : ℕ := (stageM 0).view.dmaCredit
theorem stage_credit (d : Fin 2) : (stageM d).view.dmaCredit = NS := by
  match d with
  | 0 => rfl
  | 1 => rfl
theorem NS_pos : 0 < NS := View.dmaCredit_pos _ (by decide)

theorem stageStart_wp (c : Dev nD) (d : Fin 2) (n : Fin 18) (s : ℕ) (off : Fin 3 → ℕ) (h) (hoff : off = chunkOff s d c)
    (q : PosShare TreeShare) (k : Pr F) (Q : PUnit → sProp 𝕄) :
    iprop(xAt m c q ∗ stgAny (F := F) c d ∗ locV (F := F) c n)
      ⊢ iprop((Fly c n NS (stgAt c d (stageV m s c d)) -∗ WP c k Q) -∗ WP c (stageStart d n off h k) Q) := by
  subst hoff
  unfold stgAny locV stageStart
  iintro ⟨Hx, ⟨%X, Hs⟩, Hv⟩ Hk
  unfold stgAt owns
  icases Hs with ⟨%f, %hf, Hs⟩
  iapply (wp_dmaLocal (countersEmb : UEmb Counters 𝕄) defs𝒱 (c : Thread nD τ) none (src := chunkM (chunkOff s d c) h) (dst := stageM d)
      (q := q) (fs := xOf m c) (fd := f) (sm := .dma (locS n)) 0 NS (stage_credit d) NS_pos (Finset.Subset.refl _)) $$ [Hx Hs Hv]
  · isplitl [Hx]; · iapply (x_carve m c q _); iexact Hx
    isplitl [Hs]; · iexact Hs
    iexact Hv
  iintro Hfl
  iapply Hk
  unfold Fly
  iapply (Flight_mono (countersEmb : UEmb Counters 𝕄) (c : Thread nD τ) (Laws.sep_and.trans (and_elimL.trans (owns_landed c (stageM d) f _ _ rfl)))) $$ Hfl

theorem stageWait_wp (c : Dev nD) (d : Fin 2) (n : Fin 18) (off : Fin 3 → ℕ) (h) (l : List Due) (hl : above 0 l = true)
    (D : sProp 𝕄) (k : Pr F) (Q : PUnit → sProp 𝕄) :
    iprop(levAts L lv ∗ Fly (F := F) c n NS D ∗ Ow (F := F) c l)
      ⊢ iprop(((D ∗ locV (F := F) c n ∗ Ow (F := F) c l) -∗ WP c k Q) -∗ WP c (stageWait d n off h k) Q) := by
  unfold Fly Ow locV stageWait
  iintro ⟨Hl, Hf, ⟨%W, HO⟩⟩ Hk
  iapply (wp_waitLocalO (countersEmb : UEmb Counters 𝕄) defs𝒱 (c : Thread nD τ) none (W := W) (srcw := chunkM off h) (hsrc := (View.wordExact_bits rfl).reshape _ _) (hdst := (stageM_isWhole d).wordExact) 0 (stage_credit d)) $$ [Hl Hf HO]
  · isplitl [Hf]; · iexact Hf
    isplitl [HO]; · iexact HO
    iapply (mayWait (F := F) c _ 0 l (.inl rfl) (by rw [kd_loc]; exact hl)); iexact Hl
  iintro ⟨HD, Hv, HO⟩
  iapply Hk
  isplitl [HD]; · iexact HD
  isplitl [Hv]; · iexact Hv
  iexists _; iexact HO

/-- A slot at any contents. -/
theorem slot_any (c : Dev nD) (d b : Fin 2) (j : Fin 4) (f : (slotM d b j).view.ty.Contents (Elt F)) :
    ((slotM d b j).view.loc (c : Thread nD τ) ↦[(slotM d b j).view.set]{fullShare} f : sProp 𝕄) ⊢ slotAny c d b j := by
  unfold slotAny slotAt
  iintro H
  iexists _
  iapply (owns_intro (c : Thread nD τ) (slotM d b j) fullShare f); iexact H

/-- The credit of a copy to the result. -/
def NO : ℕ := (outM 0 0).view.dmaCredit
theorem out_credit (d : Fin 2) (j : Fin 4) : (outM d j).view.dmaCredit = NO := rfl
theorem NO_pos : 0 < NO := View.dmaCredit_pos _ (by decide)

theorem outStart_wp (c : Dev nD) (d : Fin 2) (j : Fin 4) (n : Fin 18) (X : Blk F) (k : Pr F) (Q : PUnit → sProp 𝕄) :
    iprop(slotAt (F := F) c d 1 j X ∗ outAny (F := F) c d j ∗ locV (F := F) c n)
      ⊢ iprop((Fly c n NO iprop(outAt (F := F) c d j X ∗ slotAny (F := F) c d 1 j) -∗ WP c k Q) -∗ WP c (outStart d j n k) Q) := by
  unfold outAny outAt slotAt owns locV outStart
  iintro ⟨⟨%fs, %hfs, Hx⟩, ⟨%X', %f, %hf, Hs⟩, Hv⟩ Hk
  iapply (wp_dmaLocal (countersEmb : UEmb Counters 𝕄) defs𝒱 (c : Thread nD τ) none (src := slotM d 1 j) (dst := outM d j)
      (q := fullShare) (fs := fs) (fd := f) (sm := .dma (locS n)) 0 NO (out_credit d j) NO_pos (Finset.Subset.refl _)) $$ [Hx Hs Hv]
  · isplitl [Hx]; · iexact Hx
    isplitl [Hs]; · iexact Hs
    iexact Hv
  iintro Hfl
  iapply Hk
  unfold Fly
  iapply (Flight_mono (countersEmb : UEmb Counters 𝕄) (c : Thread nD τ) (BIClass.sep_mono (owns_landed c (outM d j) f _ X hfs) (slot_any c d 1 j fs))) $$ Hfl

theorem outWait_wp (c : Dev nD) (d : Fin 2) (j : Fin 4) (n : Fin 18) (l : List Due) (hl : above 0 l = true)
    (D : sProp 𝕄) (k : Pr F) (Q : PUnit → sProp 𝕄) :
    iprop(levAts L lv ∗ Fly (F := F) c n NO D ∗ Ow (F := F) c l)
      ⊢ iprop(((D ∗ locV (F := F) c n ∗ Ow (F := F) c l) -∗ WP c k Q) -∗ WP c (outWait d j n k) Q) := by
  unfold Fly Ow locV outWait
  iintro ⟨Hl, Hf, ⟨%W, HO⟩⟩ Hk
  iapply (wp_waitLocalO (countersEmb : UEmb Counters 𝕄) defs𝒱 (c : Thread nD τ) none (W := W) (srcw := slotM d 1 j) (hsrc := (View.wordExact_bits rfl).reshape _ _) (hdst := View.wordExact_bits rfl) 0 (out_credit d j)) $$ [Hl Hf HO]
  · isplitl [Hf]; · iexact Hf
    isplitl [HO]; · iexact HO
    iapply (mayWait (F := F) c _ 0 l (.inl rfl) (by rw [kd_loc]; exact hl)); iexact Hl
  iintro ⟨HD, Hv, HO⟩
  iapply Hk
  isplitl [HD]; · iexact HD
  isplitl [Hv]; · iexact Hv
  iexists _; iexact HO

/-! ## The add -/

theorem slot_open (c : Dev nD) (d b : Fin 2) (j : Fin 4) (X : Blk F) :
    slotAt (F := F) c d b j X
      = (iprop(∃ f, ⌜(shapeCast S512x1024 (((commM d).access (slotR b j)).read (Elt F) f) shapeCasts_S1x1x512x1024_S512x1024 : Blk F) = X⌝
          ∗ (((commM d).access (slotR b j)).loc (c : Thread nD τ) ↦[((commM d).access (slotR b j)).set]{fullShare} f)) : sProp 𝕄) := by
  have hs : (slotM d b j).view.set = ((commM d).access (slotR b j)).set := View.set_reshape _ _
  unfold slotAt owns
  rw [hs]
  rfl

theorem add_read (v : View sig .tc .vmem S1x1x512x1024 .f32) (f : v.ty.Contents (Elt F)) (w : Blk F) :
    (shapeCast S512x1024 (v.read (Elt F) (v.write (Elt F) f (addPay (v.read (Elt F) f) w) Finset.univ)) shapeCasts_S1x1x512x1024_S512x1024 : Blk F)
      = addf (shapeCast S512x1024 (v.read (Elt F) f) shapeCasts_S1x1x512x1024_S512x1024 : Blk F) w := by
  rw [View.read_write_univ]
  unfold addPay k0_pay1
  exact shapeCast_shapeCast _ _ _

theorem addStage_wp (c : Dev nD) (d b : Fin 2) (j : Fin 4) (X : Blk F) (Y : S2048x1024.Idx → Elt F .f32) (k : Pr F) (Q : PUnit → sProp 𝕄) :
    iprop(slotAt (F := F) c d b j X ∗ stgAt (F := F) c d Y)
      ⊢ iprop(((slotAt (F := F) c d b j (addf X (fun i => Y ((rowR j).emb i))) ∗ stgAt (F := F) c d Y) -∗ WP c k Q) -∗ WP c (addStage d b j k) Q) := by
  rw [slot_open, slot_open]
  unfold stgAt owns addStage
  iintro ⟨⟨%f, %hf, Hs⟩, ⟨%g, %hg, Ht⟩⟩ Hk
  subst hf hg
  iapply (wp_load_rect defs𝒱 (c : Thread nD τ) none Set.univ (m := commM d) (r := slotR b j) (Finset.Subset.refl _)) $$ Hs; iintro Hs
  iapply (wp_load defs𝒱 (c : Thread nD τ) none Set.univ (m := stageM d) (View.setOn_subset_set _ _)) $$ Ht; iintro Ht
  iapply (wp_load_rect defs𝒱 (c : Thread nD τ) none Set.univ (m := commM d) (r := slotR b j) (Finset.Subset.refl _)) $$ Hs; iintro Hs
  iapply (wp_store defs𝒱 (c : Thread nD τ) none Set.univ (m := commM d) (r := slotR b j) (Mk := Finset.univ) (View.setOn_subset_set _ _)) $$ Hs; iintro Hs
  iapply Hk
  isplitl [Hs]
  · iexists _
    isplitr
    rotate_left
    · iexact Hs
    · ipureintro; exact add_read _ f _
  · iexists g
    isplitr; · ipureintro; rfl
    iexact Ht

end Cert.KernelIdeal.Pf
-- ==== Proof.KernelIdealRing.lean ====
/-
# The steps that talk to the neighbours

Waiting for a send, for an arrival, for a slot given, for the barrier; signalling; sending a hop; and from these the three steps of one
sub-block's way round the ring.
-/
module

public import proofs.«01_k».proof.Proof.KernelIdealSteps

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## What every device knows of every cell -/

/-- Every cell's invariant, and that its first round is open. -/
def recs (K : Dev nD × KI → ℕ) : sProp 𝕄 :=
  bigSep Finset.univ fun ck : Dev nD × KI => iprop(cellInv ER (Rd m) (K ck) (kcell ck) ∗ reached ER (kcell ck) 0)

instance recs_persistent (K : Dev nD × KI → ℕ) : BI.Persistent (recs m K) := by unfold recs; infer_instance

theorem recs_both (K : Dev nD × KI → ℕ) (ck : Dev nD × KI) : recs m K ⊢ iprop(cellInv ER (Rd m) (K ck) (kcell ck) ∗ reached ER (kcell ck) 0) :=
  by classical exact bigSep_elim (Finset.mem_univ ck)
theorem recs_inv (K : Dev nD × KI → ℕ) (ck : Dev nD × KI) : recs m K ⊢ cellInv ER (Rd m) (K ck) (kcell ck) :=
  (recs_both m K ck).trans (Laws.sep_and.trans and_elimL)
theorem recs_reached (K : Dev nD × KI → ℕ) (ck : Dev nD × KI) : recs m K ⊢ reached ER (kcell ck) 0 :=
  (recs_both m K ck).trans (Laws.sep_and.trans and_elimR)

abbrev iS (d b : Fin 2) (j : Fin 4) : KI := .inl (d, b, j)
abbrev iR (d b : Fin 2) (j : Fin 4) : KI := .inr (.inl (d, b, j))
abbrev iF (d : Fin 2) (j : Fin 4) : KI := .inr (.inr (.inl (d, j)))
abbrev iB : KI := .inr (.inr (.inr ()))

variable (K : Dev nD × KI → ℕ)

/-! ## Waits -/

/-- A wait for round `r` of one of the device's DMA cells. -/
theorem dmaWait_wp (c : Dev nD) (i : KI) (q : DmaSem sig) (hq : smOf i = .dma q) (kk : Kd) (hk : kd (.dma q) = kk) (hb : kk ≠ .bar) (hA : amtOf kk = N)
    (r : ℕ) (hr : r < nR kk) (hr1 : r = 0 ∨ r = 1) (l : List Due) (hl : above (lvK kk r) l = true)
    {src dst : Memref sig .tc .vmem S512x1024 .f32} {hsrc : src.view.WordExact} {hdst : dst.view.WordExact} (hN : dst.view.dmaCredit = N)
    (k : Pr F) (Q : PUnit → sProp 𝕄) :
    iprop(recs m K ∗ levAts L lv ∗ cred (tallyAt ((c : Thread nD τ), SemLoc.dma q) r N) ∗ Ow (F := F) c l
        ∗ atPos ER ((c : Thread nD τ), SemLoc.dma q) r ∅ 0)
      ⊢ iprop(((Ow (F := F) c l ∗ atPos ER ((c : Thread nD τ), SemLoc.dma q) (r + 1) ∅ 0 ∗ reached ER ((c : Thread nD τ), SemLoc.dma q) (r + 1)
            ∗ payOf m c kk r false) -∗ WP c k Q)
          -∗ WP c (.op (.waitDma2 q src dst hsrc hdst) fun _ => k) Q) := by
  unfold Ow
  iintro ⟨#HR, #HL, Hc, ⟨%W, HO⟩, Hat⟩ Hk
  ihave #HI := (recs_inv m K (c, i)) $$ HR
  ihave HI := (Entails.of_eq (show cellInv ER (Rd m) (K (c, i)) (kcell (c, i)) = cellInv ER (Rd m) (K (c, i)) ((c : Thread nD τ), SemLoc.dma q) by
    unfold kcell; rw [hq])) $$ HI
  iapply (Rounds.wp_wait_rest_token defs𝒱 ER (Rd m) (c : Thread nD τ) none (κ := K (c, i))
      (wpE_waitDma2_eq defs𝒱 (c : Thread nD τ) none Set.univ) (Set.mem_univ _) r (O := owed c l) (W := W) (R := r) (m := 0) (T := ∅)
      (by rw [Nat.zero_add, hN, expect_one m c _ kk hk hb r hr, hA])) $$ [Hc HO Hat HI]
  · isplitl [HI]; · iexact HI
    isplitl [Hc]; · rw [hN]; iexact Hc
    isplitl [HO]; · iexact HO
    isplitl []; · iapply (mayWait (F := F) c _ r l hr1 (by rw [hk]; exact hl)); iexact HL
    iexact Hat
  rw [rest_one m c _ kk hk hb r hr]
  iintro ⟨HO, Hat, Hr, Hpay⟩
  iapply Hk
  isplitl [HO]; · iexists _; iexact HO
  isplitl [Hat]; · iexact Hat
  isplitl [Hr]; · iexact Hr
  iexact Hpay

theorem recvWait_wp (c : Dev nD) (d b b' : Fin 2) (j : Fin 4) (r : ℕ) (hr : r < 1 + b.val) (hr1 : r = 0 ∨ r = 1)
    (l : List Due) (hl : above (lvK (.rcv d b j) r) l = true) (k : Pr F) (Q : PUnit → sProp 𝕄) :
    iprop(recs m K ∗ levAts L lv ∗ cred (tallyAt (rcvC c d b j) r N) ∗ Ow (F := F) c l ∗ atPos ER (rcvC c d b j) r ∅ 0)
      ⊢ iprop(((Ow (F := F) c l ∗ atPos ER (rcvC c d b j) (r + 1) ∅ 0 ∗ reached ER (rcvC c d b j) (r + 1) ∗ rcvPay m c d b j r) -∗ WP c k Q)
          -∗ WP c (recvWait d b b' j k) Q) :=
  dmaWait_wp m K c (iR d b j) (recvS d b j) rfl (.rcv d b j) (kd_rcv d b j) (fun h => by cases h) rfl r hr hr1 l hl (slot_credit d b j) k Q

theorem sendWait_wp (c : Dev nD) (d b b' : Fin 2) (j : Fin 4) (r : ℕ) (hr : r < 2 - b.val) (hr1 : r = 0 ∨ r = 1)
    (l : List Due) (hl : above 0 l = true) (k : Pr F) (Q : PUnit → sProp 𝕄) :
    iprop(recs m K ∗ levAts L lv ∗ cred (tallyAt (sndC c d b j) r N) ∗ Ow (F := F) c l ∗ atPos ER (sndC c d b j) r ∅ 0)
      ⊢ iprop(((Ow (F := F) c l ∗ atPos ER (sndC c d b j) (r + 1) ∅ 0 ∗ reached ER (sndC c d b j) (r + 1) ∗ sndPay m c d b j r) -∗ WP c k Q)
          -∗ WP c (sendWait d b b' j k) Q) :=
  dmaWait_wp m K c (iS d b j) (sendS d b j) rfl (.snd d b j) (kd_snd d b j) (fun h => by cases h) rfl r hr hr1 l hl (slot_credit d b j) k Q

/-- The wait for a slot of the neighbour. -/
theorem freWait_wp (c : Dev nD) (d : Fin 2) (j : Fin 4) (r : ℕ) (hr : r < 2) (hr1 : r = 0 ∨ r = 1)
    (l : List Due) (hl : above (lvK (.fre d j) r) l = true) (k : Pr F) (Q : PUnit → sProp 𝕄) :
    iprop(recs m K ∗ levAts L lv ∗ cred (tallyAt (freC c d j) r 1) ∗ Ow (F := F) c l ∗ atPos ER (freC c d j) r ∅ 0)
      ⊢ iprop(((Ow (F := F) c l ∗ atPos ER (freC c d j) (r + 1) ∅ 0 ∗ reached ER (freC c d j) (r + 1) ∗ frePay c d j r) -∗ WP c k Q)
          -∗ WP c (waitN (freeS d j) 1 k) Q) := by
  unfold Ow waitN
  iintro ⟨#HR, #HL, Hc, ⟨%W, HO⟩, Hat⟩ Hk
  ihave #HI := (recs_inv m K (c, iF d j)) $$ HR
  iapply (Rounds.wp_wait_rest_token defs𝒱 ER (Rd m) (c : Thread nD τ) none (κ := K (c, iF d j))
      (wpE_semWait_eq defs𝒱 (c : Thread nD τ) none Set.univ) (Set.mem_univ _) r (O := owed c l) (W := W) (R := r) (m := 0) (T := ∅)
      (by rw [Nat.zero_add, expect_one m c _ (.fre d j) (kd_fre d j) (fun h => by cases h) r hr]; rfl)) $$ [Hc HO Hat HI]
  · isplitl [HI]; · iexact HI
    isplitl [Hc]; · iexact Hc
    isplitl [HO]; · iexact HO
    isplitl []; · iapply (mayWait (F := F) c _ r l hr1 (by rw [kd_fre]; exact hl)); iexact HL
    iexact Hat
  rw [rest_one m c _ (.fre d j) (kd_fre d j) (fun h => by cases h) r hr, show payOf m c (.fre d j) r false = frePay c d j r from rfl]
  iintro ⟨HO, Hat, Hr, Hpay⟩
  iapply Hk
  isplitl [HO]; · iexists _; iexact HO
  isplitl [Hat]; · iexact Hat
  isplitl [Hr]; · iexact Hr
  iexact Hpay

/-- The entry barrier. -/
theorem barWait_wp (c : Dev nD) (l : List Due) (hl : above 1 l = true) (k : Pr F) (Q : PUnit → sProp 𝕄) :
    iprop(recs m K ∗ levAts L lv ∗ cred (tallyAt (barC c) 0 2) ∗ Ow (F := F) c l ∗ atPos ER (barC c) 0 ∅ 0)
      ⊢ iprop(((Ow (F := F) c l ∗ atPos ER (barC c) 1 ∅ 0 ∗ barPay (F := F) 0 c ∗ barPay (F := F) 1 c) -∗ WP c k Q)
          -∗ WP c (waitN barS 2 k) Q) := by
  unfold Ow waitN
  iintro ⟨#HR, #HL, Hc, ⟨%W, HO⟩, Hat⟩ Hk
  ihave #HI := (recs_inv m K (c, iB)) $$ HR
  iapply (Rounds.wp_wait_rest_token defs𝒱 ER (Rd m) (c : Thread nD τ) none (κ := K (c, iB))
      (wpE_semWait_eq defs𝒱 (c : Thread nD τ) none Set.univ) (Set.mem_univ _) 0 (O := owed c l) (W := W) (R := 0) (m := 0) (T := ∅)
      (by rw [Nat.zero_add, expect_bar])) $$ [Hc HO Hat HI]
  · isplitl [HI]; · iexact HI
    isplitl [Hc]; · iexact Hc
    isplitl [HO]; · iexact HO
    isplitl []; · iapply (mayWait (F := F) c _ 0 l (.inl rfl) (by rw [kd_bar]; exact hl)); iexact HL
    iexact Hat
  rw [rest_bar]
  iintro ⟨HO, Hat, -, Hpay⟩
  iapply Hk
  isplitl [HO]; · iexists _; iexact HO
  isplitl [Hat]; · iexact Hat
  iexact Hpay

/-! ## Signals -/

/-- Giving a slot back to the neighbour that sends into it. -/
theorem freSig_wp (c : Dev nD) (t : Dev nD) (d : Fin 2) (j : Fin 4) (s : Fin 2) (ht : t = up d c) (l : List Due) (k : Pr F) (Q : PUnit → sProp 𝕄) :
    iprop(recs m K ∗ Ow (F := F) c (.fre s d j :: l) ∗ dutyTok ER (freC (up d c) d j) s.val false ∗ reached ER (freC (up d c) d j) s.val
        ∗ slotAny (F := F) c d s j ∗ reached ER (rcvC c d s j) s.val)
      ⊢ iprop((Ow (F := F) c l -∗ WP c k Q) -∗ WP c (sig1 t (freeS d j) k) Q) := by
  subst ht
  unfold Ow sig1
  iintro ⟨#HR, ⟨%W, HO⟩, Htok, Hr, Hs, Hrr⟩ Hk
  ihave #HI := (recs_inv m K (up d c, iF d j)) $$ HR
  iapply (Rounds.wp_signal defs𝒱 ER (Rd m) (c : Thread nD τ) none (κ := K (up d c, iF d j)) (dst := (up d c : Thread nD τ)) (sem := freeS d j) (r := s.val) (d := false)
    (by rw [duties_one m (up d c) _ (.fre d j) (kd_fre d j) (fun h => by cases h) s.val s.isLt]; exact Finset.mem_singleton_self _)
    (amount_eq m (up d c) _ (.fre d j) (kd_fre d j) s.val false) s.val (owed c l) rfl (W := W)) $$ [HI HO Htok Hr Hs Hrr]
  · isplitl [HI]; · iexact HI
    isplitl [HO]; · iexact HO
    isplitl [Htok]; · iexact Htok
    isplitl [Hs Hrr]
    · rw [payload_eq m (up d c) _ (.fre d j) (kd_fre d j)]
      have hf : fin2 s.val = s := by revert s; decide
      rw [show payOf m (up d c) (.fre d j) s.val false = frePay (up d c) d j s.val from rfl]
      unfold frePay
      rw [hf, down_up]
      isplitl [Hs] <;> iassumption
    · iexact Hr
  iintro HO
  iapply Hk
  iexists _; iexact HO

/-- The entry barrier's signal to the device that sends to `c` in direction `d`: `c`'s second slots are its to write. -/
theorem barSig_wp (c : Dev nD) (t : Dev nD) (d : Fin 2) (ht : t = up d c) (l : List Due) (k : Pr F) (Q : PUnit → sProp 𝕄) :
    iprop(recs m K ∗ Ow (F := F) c (.bar d :: l) ∗ dutyTok ER (barC (up d c)) 0 (decide (d = 0))
        ∗ slotAny (F := F) c d 1 0 ∗ slotAny (F := F) c d 1 1 ∗ slotAny (F := F) c d 1 2 ∗ slotAny (F := F) c d 1 3)
      ⊢ iprop((Ow (F := F) c l -∗ WP c k Q) -∗ WP c (sig1 t barS k) Q) := by
  subst ht
  unfold Ow sig1
  iintro ⟨#HR, ⟨%W, HO⟩, Htok, Hs⟩ Hk
  ihave #HI := (recs_inv m K (up d c, iB)) $$ HR
  ihave #Hr := (recs_reached m K (up d c, iB)) $$ HR
  iapply (Rounds.wp_signal defs𝒱 ER (Rd m) (c : Thread nD τ) none (κ := K (up d c, iB)) (dst := (up d c : Thread nD τ)) (sem := barS) (r := 0) (d := decide (d = 0))
    (by rw [duties_bar]; exact Finset.mem_univ _)
    (amount_eq m (up d c) _ .bar kd_bar 0 _) 0 (owed c l) rfl (W := W)) $$ [HI HO Htok Hr Hs]
  · isplitl [HI]; · iexact HI
    isplitl [HO]; · iexact HO
    isplitl [Htok]; · iexact Htok
    isplitl [Hs]
    · rw [payload_eq m (up d c) _ .bar kd_bar]
      have hf : dirOf (decide (d = 0)) = d := by revert d; decide
      rw [show payOf m (up d c) .bar 0 (decide (d = 0)) = barPay (dirOf (decide (d = 0))) (up d c) from rfl]
      unfold barPay
      rw [hf, down_up]
      iexact Hs
    · iexact Hr
  iintro HO
  iapply Hk
  iexists _; iexact HO

/-! ## Hops -/

theorem hop_src (h : Fin 3) : (fl (hs h)).val + 2 * hr h = h.val := by revert h; decide
theorem hop_dst (h : Fin 3) : 1 - (hs h).val + 2 * hr h = h.val := by revert h; decide
theorem hop_rs (h : Fin 3) : hr h < 2 - (fl (hs h)).val := by revert h; decide
theorem hop_rd (h : Fin 3) : hr h < 1 + (hs h).val := by revert h; decide

/-- Hop `h` of a sub-block. -/
theorem hopSend_wp (c : Dev nD) (t : Dev nD) (d : Fin 2) (j : Fin 4) (h : Fin 3) (b b' : Fin 2) (hb : b = fl (hs h)) (hb' : b' = hs h) (ht : t = down d c)
    (l : List Due) (k : Pr F) (Q : PUnit → sProp 𝕄) :
    iprop(recs m K ∗ Ow (F := F) c (.snd h d j :: l) ∗ slotAt (F := F) c d b j (acc m h.val c d j) ∗ slotAny (F := F) (down d c) d b' j
        ∗ dutyTok ER (sndC c d b j) (hr h) false ∗ reached ER (sndC c d b j) (hr h)
        ∗ dutyTok ER (rcvC (down d c) d b' j) (hr h) false ∗ reached ER (rcvC (down d c) d b' j) (hr h)
        ∗ reached ER (freC c d j) h.val)
      ⊢ iprop(((cred (tallyAt (sndC c d b j) (hr h) N) ∗ Ow (F := F) c l) -∗ WP c k Q) -∗ WP c (hopSend t d b b' j k) Q) := by
  subst ht hb hb'
  unfold Ow hopSend
  iintro ⟨#HR, ⟨%W, HO⟩, Hs, Hd, Ht1, Hr1, Ht2, Hr2, Hf⟩ Hk
  ihave #HI1 := (recs_inv m K (c, iS d (fl (hs h)) j)) $$ HR
  ihave #HI2 := (recs_inv m K (down d c, iR d (hs h) j)) $$ HR
  unfold slotAny slotAt owns
  icases Hs with ⟨%fs, %hfs, Hs⟩
  icases Hd with ⟨%X, %fd, %hfd, Hd⟩
  iapply (Rounds.wp_send_pointsTo_with defs𝒱 ER (Rd m) (c : Thread nD τ) none (κ₁ := K (c, iS d (fl (hs h)) j)) (κ₂ := K (down d c, iR d (hs h) j))
    (c' := (down d c : Thread nD τ)) (src := slotM d (fl (hs h)) j) (dst := slotM d (hs h) j) (sS := .dma (sendS d (fl (hs h)) j)) (sem := .dma (recvS d (hs h) j))
    (r₁ := hr h) (r₂ := hr h) (d₁ := false) (d₂ := false) (q := fullShare) (fs := fs) (fd := fd) (F := reached ER (freC c d j) h.val)
    (by rw [duties_one m c _ (.snd d (fl (hs h)) j) (kd_snd _ _ _) (fun h => by cases h) _ (hop_rs h)]; exact Finset.mem_singleton_self _)
    (by rw [duties_one m (down d c) _ (.rcv d (hs h) j) (kd_rcv _ _ _) (fun h => by cases h) _ (hop_rd h)]; exact Finset.mem_singleton_self _)
    (hr h) (hr h) N (slot_credit d (hs h) j)
    (amount_eq m c _ (.snd d (fl (hs h)) j) (kd_snd _ _ _) _ _) (amount_eq m (down d c) _ (.rcv d (hs h) j) (kd_rcv _ _ _) _ _) (owed c l) rfl (W := W)
    (by
      rw [payload_eq m c _ (.snd d (fl (hs h)) j) (kd_snd _ _ _)]
      show _ ⊢ sndPay m c d (fl (hs h)) j (hr h)
      unfold sndPay slotAt
      rw [hop_src, ← hfs]
      exact owns_intro (c : Thread nD τ) _ fullShare fs)
    (by
      rw [payload_eq m (down d c) _ (.rcv d (hs h) j) (kd_rcv _ _ _)]
      show _ ⊢ rcvPay m (down d c) d (hs h) j (hr h)
      unfold rcvPay slotAt
      rw [hop_dst, up_down]
      exact BIClass.sep_mono (owns_landed (down d c) (slotM d (hs h) j) fd _ _ hfs) (BI.Entails.refl _))) $$ [HI1 HI2 HO Hs Hd Ht1 Hr1 Ht2 Hr2 Hf]
  · isplitl [HI1]; · iexact HI1
    isplitl [HI2]; · iexact HI2
    isplitl [Hs]; · iexact Hs
    isplitl [Hd Hf]
    · isplitl [Hd]; · iexact Hd
      iexact Hf
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

end Cert.KernelIdeal.Pf
-- ==== Proof.KernelIdealLane.lean ====
/-
# One sub-block's way round the ring

What a device keeps for one sub-block of one direction between the steps, and each step as a passage from one such state to the next.
-/
module

public import proofs.«01_k».proof.Proof.KernelIdealRing

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × KI → ℕ)

/-- The owner stands at the start of round `r` of the cell. -/
abbrev pos (g : GSem nD τ sig) (r : ℕ) : sProp 𝕄 := atPos (ER (F := F)) g r ∅ 0
abbrev tk (g : GSem nD τ sig) (r : ℕ) : sProp 𝕄 := dutyTok (ER (F := F)) g r false
abbrev rch (g : GSem nD τ sig) (r : ℕ) : sProp 𝕄 := reached (ER (F := F)) g r
abbrev cr (g : GSem nD τ sig) (i n : ℕ) : sProp 𝕄 := cred (tallyAt g i n)

/-! ## The two middle steps -/

/-- Before step `s`: hop `s` is on its way out of slot `s`, and on its way in to the other slot. -/
def ringPre (s : Fin 2) (c : Dev nD) (d : Fin 2) (j : Fin 4) : sProp 𝕄 :=
  iprop(pos (F := F) (sndC c d s j) 0 ∗ cr (F := F) (sndC c d s j) 0 N ∗ pos (F := F) (rcvC c d (fl s) j) 0 ∗ cr (F := F) (rcvC c d (fl s) j) 0 N
    ∗ pos (F := F) (freC c d j) s.val ∗ cr (F := F) (freC c d j) s.val 1 ∗ tk (F := F) (freC (up d c) d j) s.val
    ∗ tk (F := F) (sndC c d (fl s) j) s.val ∗ tk (F := F) (rcvC (down d c) d s j) s.val
    ∗ rch (F := F) (sndC c d (fl s) j) s.val ∗ rch (F := F) (rcvC c d s j) s.val)

/-- After it: hop `s + 1` is on its way out of the other slot. -/
def ringPost (s : Fin 2) (c : Dev nD) (d : Fin 2) (j : Fin 4) : sProp 𝕄 :=
  iprop(pos (F := F) (sndC c d s j) 1 ∗ rch (F := F) (sndC c d s j) 1 ∗ pos (F := F) (rcvC c d (fl s) j) 1 ∗ rch (F := F) (rcvC c d (fl s) j) 1
    ∗ pos (F := F) (freC c d j) (s.val + 1) ∗ cr (F := F) (sndC c d (fl s) j) s.val N)

theorem hr_succ (s : Fin 2) : hr s.succ = s.val := by revert s; decide
theorem hs_succ (s : Fin 2) : hs s.succ = s := by revert s; decide
theorem fl_dst (s : Fin 2) : 1 - (fl s).val + 2 * 0 = s.val := by revert s; decide
theorem fin2_val (s : Fin 2) : fin2 s.val = s := by revert s; decide

theorem ringStep_wp (c t t' : Dev nD) (d : Fin 2) (j : Fin 4) (s : Fin 2) (ht : t = up d c) (ht' : t' = down d c) (l : List Due)
    (h1 : above (lvK (.rcv d (fl s) j) 0) (.fre s d j :: .snd s.succ d j :: l) = true)
    (h2 : above 0 (.fre s d j :: .snd s.succ d j :: l) = true)
    (h3 : above (lvK (.fre d j) s.val) (.snd s.succ d j :: l) = true) (k : Pr F) (Q : PUnit → sProp 𝕄) :
    iprop(recs m K ∗ levAts L lv ∗ Ow (F := F) c (.fre s d j :: .snd s.succ d j :: l) ∗ ringPre (F := F) s c d j ∗ stgAt c d (stageV m s.val c d))
      ⊢ iprop(((Ow (F := F) c l ∗ ringPost (F := F) s c d j ∗ stgAt c d (stageV m s.val c d)) -∗ WP c k Q)
          -∗ WP c (ringStep t t' d (fl s) s j k) Q) := by
  unfold ringPre ringStep
  iintro ⟨#HR, #HL, HO, ⟨Hps, Hcs, Hpr, Hcr, Hpf, Hcf, Htf, Hts, Htr, Hrs, Hrr⟩, Hst⟩ Hk
  iapply (recvWait_wp m K c d (fl s) s j 0 (by omega) (.inl rfl) _ h1) $$ [Hcr HO Hpr]
  · isplitl []; · iexact HR
    isplitl []; · iexact HL
    isplitl [Hcr]; · iexact Hcr
    isplitl [HO]; · iexact HO
    iexact Hpr
  iintro ⟨HO, Hpr, #Hrp, Hpay⟩
  unfold rcvPay
  rw [fl_dst]
  icases Hpay with ⟨Hslot, Hrf⟩
  iapply (addStage_wp c d (fl s) j (acc m s.val (up d c) d j) (stageV m s.val c d)) $$ [Hslot Hst]
  · isplitl [Hslot]; · iexact Hslot
    iexact Hst
  iintro ⟨Hslot, Hst⟩
  iapply (sendWait_wp m K c d s (fl s) j 0 (by omega) (.inl rfl) _ h2) $$ [Hcs HO Hps]
  · isplitl []; · iexact HR
    isplitl []; · iexact HL
    isplitl [Hcs]; · iexact Hcs
    isplitl [HO]; · iexact HO
    iexact Hps
  iintro ⟨HO, Hps, #Hrsp, Hold⟩
  unfold sndPay
  iapply (freSig_wp m K c t d j s ht _) $$ [HO Htf Hrf Hold Hrr]
  · isplitl []; · iexact HR
    isplitl [HO]; · iexact HO
    isplitl [Htf]; · iexact Htf
    isplitl [Hrf]; · iexact Hrf
    isplitl [Hold]
    · unfold slotAny; iexists _; iexact Hold
    · iexact Hrr
  iintro HO
  iapply (freWait_wp m K c d j s.val s.isLt (by have := s.isLt; omega) _ h3) $$ [Hcf HO Hpf]
  · isplitl []; · iexact HR
    isplitl []; · iexact HL
    isplitl [Hcf]; · iexact Hcf
    isplitl [HO]; · iexact HO
    iexact Hpf
  iintro ⟨HO, Hpf, #Hrfp, Hpay⟩
  unfold frePay
  rw [fin2_val]
  icases Hpay with ⟨Hnew, Hrn⟩
  iapply (hopSend_wp m K c t' d j s.succ (fl s) s (by rw [hs_succ]) (hs_succ s).symm ht' l) $$ [HO Hslot Hnew Hts Hrs Htr Hrn]
  · rw [hr_succ]
    isplitl []; · iexact HR
    isplitl [HO]; · iexact HO
    isplitl [Hslot]; · iexact Hslot
    isplitl [Hnew]; · iexact Hnew
    isplitl [Hts]; · iexact Hts
    isplitl [Hrs]; · iexact Hrs
    isplitl [Htr]; · iexact Htr
    isplitl [Hrn]; · iexact Hrn
    iexact Hrfp
  rw [hr_succ]
  iintro ⟨Hcs, HO⟩
  iapply Hk
  isplitl [HO]; · iexact HO
  isplitr [Hst]
  · unfold ringPost
    isplitl [Hps]; · iexact Hps
    isplitl []; · iexact Hrsp
    isplitl [Hpr]; · iexact Hpr
    isplitl []; · iexact Hrp
    isplitl [Hpf]; · iexact Hpf
    iexact Hcs
  · iexact Hst

/-! ## The states of a sub-block -/

/-- At the start. -/
def lane0 (c : Dev nD) (d : Fin 2) (j : Fin 4) : sProp 𝕄 :=
  iprop(pos (F := F) (sndC c d 0 j) 0 ∗ pos (F := F) (sndC c d 1 j) 0 ∗ pos (F := F) (rcvC c d 0 j) 0 ∗ pos (F := F) (rcvC c d 1 j) 0 ∗ pos (F := F) (freC c d j) 0
    ∗ tk (F := F) (sndC c d 0 j) 0 ∗ tk (F := F) (sndC c d 0 j) 1 ∗ tk (F := F) (sndC c d 1 j) 0
    ∗ tk (F := F) (rcvC (down d c) d 0 j) 0 ∗ tk (F := F) (rcvC (down d c) d 1 j) 0 ∗ tk (F := F) (rcvC (down d c) d 1 j) 1
    ∗ tk (F := F) (freC (up d c) d j) 0 ∗ tk (F := F) (freC (up d c) d j) 1
    ∗ cr (F := F) (rcvC c d 0 j) 0 N ∗ cr (F := F) (rcvC c d 1 j) 0 N ∗ cr (F := F) (rcvC c d 1 j) 1 N
    ∗ cr (F := F) (freC c d j) 0 1 ∗ cr (F := F) (freC c d j) 1 1)

/-- After the first hop. -/
def lane1 (c : Dev nD) (d : Fin 2) (j : Fin 4) : sProp 𝕄 :=
  iprop(ringPre (F := F) 0 c d j ∗ pos (F := F) (sndC c d 1 j) 0 ∗ pos (F := F) (rcvC c d 0 j) 0
    ∗ tk (F := F) (sndC c d 0 j) 1 ∗ tk (F := F) (rcvC (down d c) d 1 j) 1 ∗ tk (F := F) (freC (up d c) d j) 1
    ∗ cr (F := F) (rcvC c d 0 j) 0 N ∗ cr (F := F) (rcvC c d 1 j) 1 N ∗ cr (F := F) (freC c d j) 1 1)

/-- After the second. -/
def lane2 (c : Dev nD) (d : Fin 2) (j : Fin 4) : sProp 𝕄 :=
  iprop(ringPre (F := F) 1 c d j ∗ pos (F := F) (sndC c d 0 j) 1 ∗ pos (F := F) (rcvC c d 1 j) 1 ∗ cr (F := F) (rcvC c d 1 j) 1 N)

/-- After the third. -/
def lane3 (c : Dev nD) (d : Fin 2) (j : Fin 4) : sProp 𝕄 :=
  iprop(pos (F := F) (rcvC c d 1 j) 1 ∗ cr (F := F) (rcvC c d 1 j) 1 N ∗ pos (F := F) (sndC c d 0 j) 1 ∗ cr (F := F) (sndC c d 0 j) 1 N
    ∗ pos (F := F) (sndC c d 1 j) 1 ∗ pos (F := F) (rcvC c d 0 j) 1 ∗ pos (F := F) (freC c d j) 2)

/-- After the last arrival. -/
def lane4 (c : Dev nD) (d : Fin 2) (j : Fin 4) : sProp 𝕄 :=
  iprop(pos (F := F) (rcvC c d 1 j) 2 ∗ pos (F := F) (sndC c d 0 j) 1 ∗ cr (F := F) (sndC c d 0 j) 1 N
    ∗ pos (F := F) (sndC c d 1 j) 1 ∗ pos (F := F) (rcvC c d 0 j) 1 ∗ pos (F := F) (freC c d j) 2)

/-- At the end. -/
def lane5 (c : Dev nD) (d : Fin 2) (j : Fin 4) : sProp 𝕄 :=
  iprop(pos (F := F) (sndC c d 0 j) 2 ∗ pos (F := F) (sndC c d 1 j) 1 ∗ pos (F := F) (rcvC c d 0 j) 1 ∗ pos (F := F) (rcvC c d 1 j) 2 ∗ pos (F := F) (freC c d j) 2)

theorem hop0_wp (c t : Dev nD) (d : Fin 2) (j : Fin 4) (ht : t = down d c) (l : List Due) (k : Pr F) (Q : PUnit → sProp 𝕄) :
    iprop(recs m K ∗ Ow (F := F) c (.snd 0 d j :: l) ∗ slotAt c d 0 j (seedV m c d j) ∗ slotAny (F := F) (down d c) d 1 j ∗ lane0 (F := F) c d j)
      ⊢ iprop(((Ow (F := F) c l ∗ lane1 (F := F) c d j) -∗ WP c k Q) -∗ WP c (hopSend t d 0 1 j k) Q) := by
  unfold lane0
  iintro ⟨#HR, HO, Hs, Hd, Hps0, Hps1, Hpr0, Hpr1, Hpf, Hts00, Hts01, Hts10, Htr00, Htr10, Htr11, Htf0, Htf1, Hcr00, Hcr10, Hcr11, Hcf0, Hcf1⟩ Hk
  ihave #H1 := (recs_reached m K (c, iS d 0 j)) $$ HR
  ihave #H2 := (recs_reached m K (down d c, iR d 1 j)) $$ HR
  ihave #H3 := (recs_reached m K (c, iF d j)) $$ HR
  ihave #H4 := (recs_reached m K (c, iS d 1 j)) $$ HR
  ihave #H5 := (recs_reached m K (c, iR d 0 j)) $$ HR
  iapply (hopSend_wp m K c t d j 0 0 1 rfl rfl ht l) $$ [HO Hs Hd Hts00 Htr10]
  · isplitl []; · iexact HR
    isplitl [HO]; · iexact HO
    isplitl [Hs]; · iexact Hs
    isplitl [Hd]; · iexact Hd
    isplitl [Hts00]; · iexact Hts00
    isplitl []; · iexact H1
    isplitl [Htr10]; · iexact Htr10
    isplitl []; · iexact H2
    iexact H3
  iintro ⟨Hc, HO⟩
  iapply Hk
  isplitl [HO]; · iexact HO
  unfold lane1 ringPre
  isplitl [Hps0 Hc Hpr1 Hcr10 Hpf Hcf0 Htf0 Hts10 Htr00]
  · isplitl [Hps0]; · iexact Hps0
    isplitl [Hc]; · iexact Hc
    isplitl [Hpr1]; · iexact Hpr1
    isplitl [Hcr10]; · iexact Hcr10
    isplitl [Hpf]; · iexact Hpf
    isplitl [Hcf0]; · iexact Hcf0
    isplitl [Htf0]; · iexact Htf0
    isplitl [Hts10]; · iexact Hts10
    isplitl [Htr00]; · iexact Htr00
    isplitl []; · iexact H4
    iexact H5
  isplitl [Hps1]; · iexact Hps1
  isplitl [Hpr0]; · iexact Hpr0
  isplitl [Hts01]; · iexact Hts01
  isplitl [Htr11]; · iexact Htr11
  isplitl [Htf1]; · iexact Htf1
  isplitl [Hcr00]; · iexact Hcr00
  isplitl [Hcr11]; · iexact Hcr11
  iexact Hcf1

theorem ring0_wp (c t t' : Dev nD) (d : Fin 2) (j : Fin 4) (ht : t = up d c) (ht' : t' = down d c) (l : List Due)
    (h1 : above (lvK (.rcv d 1 j) 0) (.fre 0 d j :: .snd 1 d j :: l) = true)
    (h2 : above 0 (.fre 0 d j :: .snd 1 d j :: l) = true)
    (h3 : above (lvK (.fre d j) 0) (.snd 1 d j :: l) = true) (k : Pr F) (Q : PUnit → sProp 𝕄) :
    iprop(recs m K ∗ levAts L lv ∗ Ow (F := F) c (.fre 0 d j :: .snd 1 d j :: l) ∗ lane1 (F := F) c d j ∗ stgAt c d (stageV m 0 c d))
      ⊢ iprop(((Ow (F := F) c l ∗ lane2 (F := F) c d j ∗ stgAt c d (stageV m 0 c d)) -∗ WP c k Q)
          -∗ WP c (ringStep t t' d 1 0 j k) Q) := by
  unfold lane1
  iintro ⟨#HR, #HL, HO, ⟨Hring, Hps1, Hpr0, Hts01, Htr11, Htf1, Hcr00, Hcr11, Hcf1⟩, Hst⟩ Hk
  iapply (ringStep_wp m K c t t' d j 0 ht ht' l h1 h2 h3) $$ [HO Hring Hst]
  · isplitl []; · iexact HR
    isplitl []; · iexact HL
    isplitl [HO]; · iexact HO
    isplitl [Hring]; · iexact Hring
    iexact Hst
  unfold ringPost
  iintro ⟨HO, ⟨Hps0, Hrs0, Hpr1, Hrr1, Hpf, Hcs1⟩, Hst⟩
  iapply Hk
  isplitl [HO]; · iexact HO
  isplitr [Hst]
  · unfold lane2 ringPre
    isplitl [Hps1 Hcs1 Hpr0 Hcr00 Hpf Hcf1 Htf1 Hts01 Htr11 Hrs0 Hrr1]
    · isplitl [Hps1]; · iexact Hps1
      isplitl [Hcs1]; · iexact Hcs1
      isplitl [Hpr0]; · iexact Hpr0
      isplitl [Hcr00]; · iexact Hcr00
      isplitl [Hpf]; · iexact Hpf
      isplitl [Hcf1]; · iexact Hcf1
      isplitl [Htf1]; · iexact Htf1
      isplitl [Hts01]; · iexact Hts01
      isplitl [Htr11]; · iexact Htr11
      isplitl [Hrs0]; · iexact Hrs0
      iexact Hrr1
    isplitl [Hps0]; · iexact Hps0
    isplitl [Hpr1]; · iexact Hpr1
    iexact Hcr11
  · iexact Hst

theorem ring1_wp (c t t' : Dev nD) (d : Fin 2) (j : Fin 4) (ht : t = up d c) (ht' : t' = down d c) (l : List Due)
    (h1 : above (lvK (.rcv d 0 j) 0) (.fre 1 d j :: .snd 2 d j :: l) = true)
    (h2 : above 0 (.fre 1 d j :: .snd 2 d j :: l) = true)
    (h3 : above (lvK (.fre d j) 1) (.snd 2 d j :: l) = true) (k : Pr F) (Q : PUnit → sProp 𝕄) :
    iprop(recs m K ∗ levAts L lv ∗ Ow (F := F) c (.fre 1 d j :: .snd 2 d j :: l) ∗ lane2 (F := F) c d j ∗ stgAt c d (stageV m 1 c d))
      ⊢ iprop(((Ow (F := F) c l ∗ lane3 (F := F) c d j ∗ stgAt c d (stageV m 1 c d)) -∗ WP c k Q)
          -∗ WP c (ringStep t t' d 0 1 j k) Q) := by
  unfold lane2
  iintro ⟨#HR, #HL, HO, ⟨Hring, Hps0, Hpr1, Hcr11⟩, Hst⟩ Hk
  iapply (ringStep_wp m K c t t' d j 1 ht ht' l h1 h2 h3) $$ [HO Hring Hst]
  · isplitl []; · iexact HR
    isplitl []; · iexact HL
    isplitl [HO]; · iexact HO
    isplitl [Hring]; · iexact Hring
    iexact Hst
  unfold ringPost
  iintro ⟨HO, ⟨Hps1, -, Hpr0, -, Hpf, Hcs0⟩, Hst⟩
  iapply Hk
  isplitl [HO]; · iexact HO
  isplitr [Hst]
  · unfold lane3
    isplitl [Hpr1]; · iexact Hpr1
    isplitl [Hcr11]; · iexact Hcr11
    isplitl [Hps0]; · iexact Hps0
    isplitl [Hcs0]; · iexact Hcs0
    isplitl [Hps1]; · iexact Hps1
    isplitl [Hpr0]; · iexact Hpr0
    iexact Hpf
  · iexact Hst

/-- The last step: what is left of the sub-block is the copy of the total to the result. -/
theorem last_wp (c : Dev nD) (d : Fin 2) (j : Fin 4) (n : Fin 18) (k : Pr F) (Q : PUnit → sProp 𝕄) :
    iprop(recs m K ∗ levAts L lv ∗ Ow (F := F) c [] ∗ lane3 (F := F) c d j ∗ stgAt c d (stageV m 2 c d) ∗ outAny (F := F) c d j ∗ locV (F := F) c n)
      ⊢ iprop(((Ow (F := F) c [] ∗ lane4 (F := F) c d j ∗ stgAt c d (stageV m 2 c d) ∗ Fly c n NO iprop(outAt c d j (acc m 3 c d j) ∗ slotAny (F := F) c d 1 j)) -∗ WP c k Q)
          -∗ WP c (lastStep d j n k) Q) := by
  unfold lane3 lastStep
  iintro ⟨#HR, #HL, HO, ⟨Hpr1, Hcr11, Hps0, Hcs0, Hps1, Hpr0, Hpf⟩, Hst, Hout, Hv⟩ Hk
  iapply (recvWait_wp m K c d 1 0 j 1 (by decide) (.inr rfl) [] rfl) $$ [Hcr11 HO Hpr1]
  · isplitl []; · iexact HR
    isplitl []; · iexact HL
    isplitl [Hcr11]; · iexact Hcr11
    isplitl [HO]; · iexact HO
    iexact Hpr1
  iintro ⟨HO, Hpr1, -, Hpay⟩
  unfold rcvPay
  icases Hpay with ⟨Hslot, -⟩
  iapply (addStage_wp c d 1 j (acc m 2 (up d c) d j) (stageV m 2 c d)) $$ [Hslot Hst]
  · isplitl [Hslot]; · iexact Hslot
    iexact Hst
  iintro ⟨Hslot, Hst⟩
  iapply (outStart_wp c d j n (acc m 3 c d j)) $$ [Hslot Hout Hv]
  · isplitl [Hslot]; · iexact Hslot
    isplitl [Hout]; · iexact Hout
    iexact Hv
  iintro Hfl
  iapply Hk
  isplitl [HO]; · iexact HO
  isplitr [Hst Hfl]
  · unfold lane4
    isplitl [Hpr1]; · iexact Hpr1
    isplitl [Hps0]; · iexact Hps0
    isplitl [Hcs0]; · iexact Hcs0
    isplitl [Hps1]; · iexact Hps1
    isplitl [Hpr0]; · iexact Hpr0
    iexact Hpf
  isplitl [Hst]; · iexact Hst
  iexact Hfl

/-- The wait for the last send. -/
theorem sent_wp (c : Dev nD) (d : Fin 2) (j : Fin 4) (k : Pr F) (Q : PUnit → sProp 𝕄) :
    iprop(recs m K ∗ levAts L lv ∗ Ow (F := F) c [] ∗ lane4 (F := F) c d j)
      ⊢ iprop(((Ow (F := F) c [] ∗ lane5 (F := F) c d j ∗ slotAny (F := F) c d 0 j) -∗ WP c k Q)
          -∗ WP c (sendWait d 0 1 j k) Q) := by
  unfold lane4
  iintro ⟨#HR, #HL, HO, Hpr1, Hps0, Hcs0, Hps1, Hpr0, Hpf⟩ Hk
  iapply (sendWait_wp m K c d 0 1 j 1 (by decide) (.inr rfl) [] rfl) $$ [Hcs0 HO Hps0]
  · isplitl []; · iexact HR
    isplitl []; · iexact HL
    isplitl [Hcs0]; · iexact Hcs0
    isplitl [HO]; · iexact HO
    iexact Hps0
  iintro ⟨HO, Hps0, -, Hold⟩
  iapply Hk
  isplitl [HO]; · iexact HO
  isplitr [Hold]
  · unfold lane5
    isplitl [Hps0]; · iexact Hps0
    isplitl [Hps1]; · iexact Hps1
    isplitl [Hpr0]; · iexact Hpr0
    isplitl [Hpr1]; · iexact Hpr1
    iexact Hpf
  · unfold sndPay slotAny; iexists _; iexact Hold

/-- A cell whose rounds are over reads zero. -/
theorem close_cell (c : Dev nD) (i : KI) (r : ℕ) (hr : nR (kdOf i) ≤ r) :
    iprop(recs m K ∗ pos (F := F) (kcell (c, i)) r) ⊢ (iprop(|={Set.univ}=> semVal (kcell (c, i)) 0) : sProp 𝕄) := by
  iintro ⟨#HR, Hp⟩
  ihave #HI := (recs_inv m K (c, i)) $$ HR
  iapply (cell_close ER (Rd m) (κ := K (c, i)) (Set.mem_univ _) (fun h => h) (R := r)
    (fun r' hr' => duties_end m c (smOf i) (kdOf i) (kd_smOf i) r' (le_trans hr hr')))
  isplitl []; · iexact HI
  iexact Hp

/-- The sub-block's five cells at zero. -/
def laneZ (c : Dev nD) (d : Fin 2) (j : Fin 4) : sProp 𝕄 :=
  iprop(semVal (sndC c d 0 j) 0 ∗ semVal (sndC c d 1 j) 0 ∗ semVal (rcvC c d 0 j) 0 ∗ semVal (rcvC c d 1 j) 0 ∗ semVal (freC c d j) 0)

theorem lane_close (c : Dev nD) (d : Fin 2) (j : Fin 4) :
    iprop(recs m K ∗ lane5 (F := F) c d j) ⊢ (iprop(|={Set.univ}=> laneZ (F := F) c d j) : sProp 𝕄) := by
  unfold lane5 laneZ
  iintro ⟨#HR, H1, H2, H3, H4, H5⟩
  imod (close_cell m K c (iS d 0 j) 2 (by show 2 - (0 : Fin 2).val ≤ 2; decide)) $$ [H1] with H1
  · isplitl []; · iexact HR
    iexact H1
  imod (close_cell m K c (iS d 1 j) 1 (by show 2 - (1 : Fin 2).val ≤ 1; decide)) $$ [H2] with H2
  · isplitl []; · iexact HR
    iexact H2
  imod (close_cell m K c (iR d 0 j) 1 (by show 1 + (0 : Fin 2).val ≤ 1; decide)) $$ [H3] with H3
  · isplitl []; · iexact HR
    iexact H3
  imod (close_cell m K c (iR d 1 j) 2 (by show 1 + (1 : Fin 2).val ≤ 2; decide)) $$ [H4] with H4
  · isplitl []; · iexact HR
    iexact H4
  imod (close_cell m K c (iF d j) 2 (by show 2 ≤ 2; decide)) $$ [H5] with H5
  · isplitl []; · iexact HR
    iexact H5
  imodintro
  isplitl [H1]; · iexact H1
  isplitl [H2]; · iexact H2
  isplitl [H3]; · iexact H3
  isplitl [H4]; · iexact H4
  iexact H5

end Cert.KernelIdeal.Pf
-- ==== Proof.KernelIdealBody.lean ====
/-
# The body

The phases of the program, each over the eight sub-blocks, and the body from them: what a device starts with, and what it ends with.
-/
module

public import proofs.«01_k».proof.Proof.KernelIdealLane

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × KI → ℕ)

/-- One of each for the eight sub-blocks. -/
abbrev all8 (Φ : Fin 2 → Fin 4 → sProp 𝕄) : sProp 𝕄 :=
  iprop(Φ 0 0 ∗ Φ 0 1 ∗ Φ 0 2 ∗ Φ 0 3 ∗ Φ 1 0 ∗ Φ 1 1 ∗ Φ 1 2 ∗ Φ 1 3)

/-! ## Where the copies read, and whom the device talks to -/

theorem off1_eq (c : Dev nD) : k0_off1 c = seedOff 0 0 c := by revert c; decide +kernel
theorem off2_eq (c : Dev nD) : k0_off2 c = seedOff 0 1 c := by revert c; decide +kernel
theorem off3_eq (c : Dev nD) : k0_off3 c = seedOff 0 2 c := by revert c; decide +kernel
theorem off4_eq (c : Dev nD) : k0_off4 c = seedOff 0 3 c := by revert c; decide +kernel
theorem off5_eq (c : Dev nD) : k0_off5 c = seedOff 1 0 c := by revert c; decide +kernel
theorem off6_eq (c : Dev nD) : k0_off6 c = seedOff 1 1 c := by revert c; decide +kernel
theorem off7_eq (c : Dev nD) : k0_off7 c = seedOff 1 2 c := by revert c; decide +kernel
theorem off8_eq (c : Dev nD) : k0_off8 c = seedOff 1 3 c := by revert c; decide +kernel
theorem off9_0 (c : Dev nD) : k0_off9 c 0#32 = chunkOff 0 0 c := by revert c; decide +kernel
theorem off9_1 (c : Dev nD) : k0_off9 c 4294967295#32 = chunkOff 1 0 c := by revert c; decide +kernel
theorem off9_2 (c : Dev nD) : k0_off9 c 4294967294#32 = chunkOff 2 0 c := by revert c; decide +kernel
theorem off10_0 (c : Dev nD) : k0_off10 c 0#32 = chunkOff 0 1 c := by revert c; decide +kernel
theorem off10_1 (c : Dev nD) : k0_off10 c 1#32 = chunkOff 1 1 c := by revert c; decide +kernel
theorem off10_2 (c : Dev nD) : k0_off10 c 2#32 = chunkOff 2 1 c := by revert c; decide +kernel
theorem dev1_eq (c : Dev nD) : (⟨k0_dev1 c, k0_dev1_lt c⟩ : Dev nD) = up 0 c := Fin.ext (k0_dev1_eq c)
theorem dev2_eq (c : Dev nD) : (⟨k0_dev2 c, k0_dev2_lt c⟩ : Dev nD) = up 1 c := Fin.ext (k0_dev2_eq c)
theorem dev3_eq (c : Dev nD) : (⟨k0_dev3 c, k0_dev3_lt c⟩ : Dev nD) = down 0 c := Fin.ext (k0_dev3_eq c)
theorem dev4_eq (c : Dev nD) : (⟨k0_dev4 c, k0_dev4_lt c⟩ : Dev nD) = down 1 c := Fin.ext (k0_dev4_eq c)
theorem dev5_eq (c : Dev nD) : (⟨k0_dev5 c, k0_dev5_lt c⟩ : Dev nD) = down 0 c := Fin.ext (k0_dev5_eq c)
theorem dev6_eq (c : Dev nD) : (⟨k0_dev6 c, k0_dev6_lt c⟩ : Dev nD) = down 1 c := Fin.ext (k0_dev6_eq c)
theorem dev7_eq (c : Dev nD) : (⟨k0_dev7 c, k0_dev7_lt c⟩ : Dev nD) = down 0 c := Fin.ext (k0_dev7_eq c)
theorem dev8_eq (c : Dev nD) : (⟨k0_dev8 c, k0_dev8_lt c⟩ : Dev nD) = down 1 c := Fin.ext (k0_dev8_eq c)
theorem dev9_eq (c : Dev nD) : (⟨k0_dev9 c, k0_dev9_lt c⟩ : Dev nD) = down 0 c := Fin.ext (k0_dev9_eq c)
theorem dev10_eq (c : Dev nD) : (⟨k0_dev10 c, k0_dev10_lt c⟩ : Dev nD) = down 1 c := Fin.ext (k0_dev10_eq c)
theorem dev11_eq (c : Dev nD) : (⟨k0_dev11 c, k0_dev11_lt c⟩ : Dev nD) = up 0 c := Fin.ext (k0_dev11_eq c)
theorem dev12_eq (c : Dev nD) : (⟨k0_dev12 c, k0_dev12_lt c⟩ : Dev nD) = down 0 c := Fin.ext (k0_dev12_eq c)
theorem dev13_eq (c : Dev nD) : (⟨k0_dev13 c, k0_dev13_lt c⟩ : Dev nD) = up 1 c := Fin.ext (k0_dev13_eq c)
theorem dev14_eq (c : Dev nD) : (⟨k0_dev14 c, k0_dev14_lt c⟩ : Dev nD) = down 1 c := Fin.ext (k0_dev14_eq c)
theorem dev15_eq (c : Dev nD) : (⟨k0_dev15 c, k0_dev15_lt c⟩ : Dev nD) = up 0 c := Fin.ext (k0_dev15_eq c)
theorem dev16_eq (c : Dev nD) : (⟨k0_dev16 c, k0_dev16_lt c⟩ : Dev nD) = down 0 c := Fin.ext (k0_dev16_eq c)
theorem dev17_eq (c : Dev nD) : (⟨k0_dev17 c, k0_dev17_lt c⟩ : Dev nD) = up 1 c := Fin.ext (k0_dev17_eq c)
theorem dev18_eq (c : Dev nD) : (⟨k0_dev18 c, k0_dev18_lt c⟩ : Dev nD) = down 1 c := Fin.ext (k0_dev18_eq c)
theorem dev19_eq (c : Dev nD) : (⟨k0_dev19 c, k0_dev19_lt c⟩ : Dev nD) = up 0 c := Fin.ext (k0_dev19_eq c)
theorem dev20_eq (c : Dev nD) : (⟨k0_dev20 c, k0_dev20_lt c⟩ : Dev nD) = down 0 c := Fin.ext (k0_dev20_eq c)
theorem dev21_eq (c : Dev nD) : (⟨k0_dev21 c, k0_dev21_lt c⟩ : Dev nD) = up 1 c := Fin.ext (k0_dev21_eq c)
theorem dev22_eq (c : Dev nD) : (⟨k0_dev22 c, k0_dev22_lt c⟩ : Dev nD) = down 1 c := Fin.ext (k0_dev22_eq c)
theorem dev23_eq (c : Dev nD) : (⟨k0_dev23 c, k0_dev23_lt c⟩ : Dev nD) = up 0 c := Fin.ext (k0_dev23_eq c)
theorem dev24_eq (c : Dev nD) : (⟨k0_dev24 c, k0_dev24_lt c⟩ : Dev nD) = down 0 c := Fin.ext (k0_dev24_eq c)
theorem dev25_eq (c : Dev nD) : (⟨k0_dev25 c, k0_dev25_lt c⟩ : Dev nD) = up 1 c := Fin.ext (k0_dev25_eq c)
theorem dev26_eq (c : Dev nD) : (⟨k0_dev26 c, k0_dev26_lt c⟩ : Dev nD) = down 1 c := Fin.ext (k0_dev26_eq c)
theorem dev27_eq (c : Dev nD) : (⟨k0_dev27 c, k0_dev27_lt c⟩ : Dev nD) = up 0 c := Fin.ext (k0_dev27_eq c)
theorem dev28_eq (c : Dev nD) : (⟨k0_dev28 c, k0_dev28_lt c⟩ : Dev nD) = down 0 c := Fin.ext (k0_dev28_eq c)
theorem dev29_eq (c : Dev nD) : (⟨k0_dev29 c, k0_dev29_lt c⟩ : Dev nD) = up 1 c := Fin.ext (k0_dev29_eq c)
theorem dev30_eq (c : Dev nD) : (⟨k0_dev30 c, k0_dev30_lt c⟩ : Dev nD) = down 1 c := Fin.ext (k0_dev30_eq c)
theorem dev31_eq (c : Dev nD) : (⟨k0_dev31 c, k0_dev31_lt c⟩ : Dev nD) = up 0 c := Fin.ext (k0_dev31_eq c)
theorem dev32_eq (c : Dev nD) : (⟨k0_dev32 c, k0_dev32_lt c⟩ : Dev nD) = down 0 c := Fin.ext (k0_dev32_eq c)
theorem dev33_eq (c : Dev nD) : (⟨k0_dev33 c, k0_dev33_lt c⟩ : Dev nD) = up 1 c := Fin.ext (k0_dev33_eq c)
theorem dev34_eq (c : Dev nD) : (⟨k0_dev34 c, k0_dev34_lt c⟩ : Dev nD) = down 1 c := Fin.ext (k0_dev34_eq c)
theorem dev35_eq (c : Dev nD) : (⟨k0_dev35 c, k0_dev35_lt c⟩ : Dev nD) = up 0 c := Fin.ext (k0_dev35_eq c)
theorem dev36_eq (c : Dev nD) : (⟨k0_dev36 c, k0_dev36_lt c⟩ : Dev nD) = down 0 c := Fin.ext (k0_dev36_eq c)
theorem dev37_eq (c : Dev nD) : (⟨k0_dev37 c, k0_dev37_lt c⟩ : Dev nD) = up 1 c := Fin.ext (k0_dev37_eq c)
theorem dev38_eq (c : Dev nD) : (⟨k0_dev38 c, k0_dev38_lt c⟩ : Dev nD) = down 1 c := Fin.ext (k0_dev38_eq c)
theorem dev39_eq (c : Dev nD) : (⟨k0_dev39 c, k0_dev39_lt c⟩ : Dev nD) = up 0 c := Fin.ext (k0_dev39_eq c)
theorem dev40_eq (c : Dev nD) : (⟨k0_dev40 c, k0_dev40_lt c⟩ : Dev nD) = down 0 c := Fin.ext (k0_dev40_eq c)
theorem dev41_eq (c : Dev nD) : (⟨k0_dev41 c, k0_dev41_lt c⟩ : Dev nD) = up 1 c := Fin.ext (k0_dev41_eq c)
theorem dev42_eq (c : Dev nD) : (⟨k0_dev42 c, k0_dev42_lt c⟩ : Dev nD) = down 1 c := Fin.ext (k0_dev42_eq c)

/-! ## The order of payment -/

abbrev duesHop (l : List Due) : List Due :=
  .snd 0 0 0 :: .snd 0 1 0 :: .snd 0 0 1 :: .snd 0 1 1 :: .snd 0 0 2 :: .snd 0 1 2 :: .snd 0 0 3 :: .snd 0 1 3 :: l
abbrev duesRing0 (l : List Due) : List Due :=
  .fre 0 0 0 :: .snd 1 0 0 :: .fre 0 1 0 :: .snd 1 1 0 :: .fre 0 0 1 :: .snd 1 0 1 :: .fre 0 1 1 :: .snd 1 1 1 :: .fre 0 0 2 :: .snd 1 0 2 :: .fre 0 1 2 :: .snd 1 1 2 :: .fre 0 0 3 :: .snd 1 0 3 :: .fre 0 1 3 :: .snd 1 1 3 :: l
abbrev duesRing1 (l : List Due) : List Due :=
  .fre 1 0 0 :: .snd 2 0 0 :: .fre 1 1 0 :: .snd 2 1 0 :: .fre 1 0 1 :: .snd 2 0 1 :: .fre 1 1 1 :: .snd 2 1 1 :: .fre 1 0 2 :: .snd 2 0 2 :: .fre 1 1 2 :: .snd 2 1 2 :: .fre 1 0 3 :: .snd 2 0 3 :: .fre 1 1 3 :: .snd 2 1 3 :: l
/-- Everything a device owes at the start. -/
abbrev dues : List Due := .bar 0 :: .bar 1 :: duesHop (duesRing0 (duesRing1 []))

/-- One share of the argument for each copy out of it. -/
abbrev xTok (c : Dev nD) (i : Fin 14) : sProp 𝕄 := xAt m c (shareTok fullShare 14 i)

/-- A stage at any contents. -/
theorem stg_forget (c : Dev nD) (d : Fin 2) (Y : S2048x1024.Idx → Elt F .f32) : stgAt (F := F) c d Y ⊢ stgAny c d := by
  unfold stgAny; iintro H; iexists Y; iexact H

/-! ## The phases -/

set_option maxHeartbeats 4000000 in
theorem head_wp (c : Dev nD) (l : List Due) (h1 : above 1 l = true) (h0 : above 0 l = true) (k : Pr F) (Q : PUnit → sProp 𝕄) :
    iprop(recs m K ∗ levAts L lv ∗ Ow (F := F) c (.bar 0 :: .bar 1 :: l)
        ∗ (dutyTok ER (barC (up 0 c)) 0 true ∗ dutyTok ER (barC (up 1 c)) 0 false ∗ cr (F := F) (barC c) 0 2 ∗ pos (F := F) (barC c) 0)
        ∗ all8 (fun d j => slotAny (F := F) c d 0 j) ∗ all8 (fun d j => slotAny (F := F) c d 1 j) ∗ (stgAny (F := F) c 0 ∗ stgAny (F := F) c 1)
        ∗ (xTok m c 0 ∗ xTok m c 1 ∗ xTok m c 2 ∗ xTok m c 3 ∗ xTok m c 4 ∗ xTok m c 5 ∗ xTok m c 6 ∗ xTok m c 7 ∗ xTok m c 8 ∗ xTok m c 9)
        ∗ (locV (F := F) c 0 ∗ locV (F := F) c 1 ∗ locV (F := F) c 2 ∗ locV (F := F) c 3 ∗ locV (F := F) c 4 ∗ locV (F := F) c 5 ∗ locV (F := F) c 6 ∗ locV (F := F) c 7 ∗ locV (F := F) c 8 ∗ locV (F := F) c 9))
      ⊢ iprop(((Ow (F := F) c l ∗ pos (F := F) (barC c) 1 ∗ all8 (fun d j => slotAny (F := F) (down d c) d 1 j)
            ∗ all8 (fun d j => slotAt c d 0 j (seedV m c d j))
            ∗ (Fly c 0 NS (stgAt c 0 (stageV m 0 c 0)) ∗ Fly c 1 NS (stgAt c 1 (stageV m 0 c 1)))
            ∗ (locV (F := F) c 2 ∗ locV (F := F) c 3 ∗ locV (F := F) c 4 ∗ locV (F := F) c 5 ∗ locV (F := F) c 6 ∗ locV (F := F) c 7 ∗ locV (F := F) c 8 ∗ locV (F := F) c 9)) -∗ WP c k Q)
          -∗ WP c (pHead c k) Q) := by
  unfold pHead
  iintro ⟨#HR, #HL, HO, ⟨Ht0, Ht1, Hcb, Hpb⟩, ⟨Ha00, Ha01, Ha02, Ha03, Ha10, Ha11, Ha12, Ha13⟩, ⟨Hb00, Hb01, Hb02, Hb03, Hb10, Hb11, Hb12, Hb13⟩, ⟨Hg0, Hg1⟩, ⟨Hx0, Hx1, Hx2, Hx3, Hx4, Hx5, Hx6, Hx7, Hx8, Hx9⟩, ⟨Hv0, Hv1, Hv2, Hv3, Hv4, Hv5, Hv6, Hv7, Hv8, Hv9⟩⟩ Hk
  iapply (seedStart_wp m c 0 0 2 _ _ (off1_eq c) _) $$ [Hx0 Ha00 Hv2]
  · isplitl [Hx0]; · iexact Hx0
    isplitl [Ha00]; · iexact Ha00
    iexact Hv2
  iintro Hs00
  iapply (seedStart_wp m c 0 1 3 _ _ (off2_eq c) _) $$ [Hx1 Ha01 Hv3]
  · isplitl [Hx1]; · iexact Hx1
    isplitl [Ha01]; · iexact Ha01
    iexact Hv3
  iintro Hs01
  iapply (seedStart_wp m c 0 2 4 _ _ (off3_eq c) _) $$ [Hx2 Ha02 Hv4]
  · isplitl [Hx2]; · iexact Hx2
    isplitl [Ha02]; · iexact Ha02
    iexact Hv4
  iintro Hs02
  iapply (seedStart_wp m c 0 3 5 _ _ (off4_eq c) _) $$ [Hx3 Ha03 Hv5]
  · isplitl [Hx3]; · iexact Hx3
    isplitl [Ha03]; · iexact Ha03
    iexact Hv5
  iintro Hs03
  iapply (seedStart_wp m c 1 0 6 _ _ (off5_eq c) _) $$ [Hx4 Ha10 Hv6]
  · isplitl [Hx4]; · iexact Hx4
    isplitl [Ha10]; · iexact Ha10
    iexact Hv6
  iintro Hs10
  iapply (seedStart_wp m c 1 1 7 _ _ (off6_eq c) _) $$ [Hx5 Ha11 Hv7]
  · isplitl [Hx5]; · iexact Hx5
    isplitl [Ha11]; · iexact Ha11
    iexact Hv7
  iintro Hs11
  iapply (seedStart_wp m c 1 2 8 _ _ (off7_eq c) _) $$ [Hx6 Ha12 Hv8]
  · isplitl [Hx6]; · iexact Hx6
    isplitl [Ha12]; · iexact Ha12
    iexact Hv8
  iintro Hs12
  iapply (seedStart_wp m c 1 3 9 _ _ (off8_eq c) _) $$ [Hx7 Ha13 Hv9]
  · isplitl [Hx7]; · iexact Hx7
    isplitl [Ha13]; · iexact Ha13
    iexact Hv9
  iintro Hs13
  iapply (stageStart_wp m c 0 0 0 _ _ (off9_0 c) _) $$ [Hx8 Hg0 Hv0]
  · isplitl [Hx8]; · iexact Hx8
    isplitl [Hg0]; · iexact Hg0
    iexact Hv0
  iintro Hf0
  iapply (stageStart_wp m c 1 1 0 _ _ (off10_0 c) _) $$ [Hx9 Hg1 Hv1]
  · isplitl [Hx9]; · iexact Hx9
    isplitl [Hg1]; · iexact Hg1
    iexact Hv1
  iintro Hf1
  iapply (barSig_wp m K c _ 0 (dev1_eq c) _) $$ [HO Ht0 Hb00 Hb01 Hb02 Hb03]
  · isplitl []; · iexact HR
    isplitl [HO]; · iexact HO
    isplitl [Ht0]; · iexact Ht0
    isplitl [Hb00]; · iexact Hb00
    isplitl [Hb01]; · iexact Hb01
    isplitl [Hb02]; · iexact Hb02
    iexact Hb03
  iintro HO
  iapply (barSig_wp m K c _ 1 (dev2_eq c) _) $$ [HO Ht1 Hb10 Hb11 Hb12 Hb13]
  · isplitl []; · iexact HR
    isplitl [HO]; · iexact HO
    isplitl [Ht1]; · iexact Ht1
    isplitl [Hb10]; · iexact Hb10
    isplitl [Hb11]; · iexact Hb11
    isplitl [Hb12]; · iexact Hb12
    iexact Hb13
  iintro HO
  iapply (barWait_wp m K c l h1) $$ [Hcb HO Hpb]
  · isplitl []; · iexact HR
    isplitl []; · iexact HL
    isplitl [Hcb]; · iexact Hcb
    isplitl [HO]; · iexact HO
    iexact Hpb
  iintro ⟨HO, Hpb, Hp0, Hp1⟩
  unfold barPay
  icases Hp0 with ⟨Hb00, Hb01, Hb02, Hb03⟩
  icases Hp1 with ⟨Hb10, Hb11, Hb12, Hb13⟩
  iapply (seedWait_wp c 0 0 2 _ _ l h0 _) $$ [Hs00 HO]
  · isplitl []; · iexact HL
    isplitl [Hs00]; · iexact Hs00
    iexact HO
  iintro ⟨Hs00, Hv2, HO⟩
  iapply (seedWait_wp c 0 1 3 _ _ l h0 _) $$ [Hs01 HO]
  · isplitl []; · iexact HL
    isplitl [Hs01]; · iexact Hs01
    iexact HO
  iintro ⟨Hs01, Hv3, HO⟩
  iapply (seedWait_wp c 0 2 4 _ _ l h0 _) $$ [Hs02 HO]
  · isplitl []; · iexact HL
    isplitl [Hs02]; · iexact Hs02
    iexact HO
  iintro ⟨Hs02, Hv4, HO⟩
  iapply (seedWait_wp c 0 3 5 _ _ l h0 _) $$ [Hs03 HO]
  · isplitl []; · iexact HL
    isplitl [Hs03]; · iexact Hs03
    iexact HO
  iintro ⟨Hs03, Hv5, HO⟩
  iapply (seedWait_wp c 1 0 6 _ _ l h0 _) $$ [Hs10 HO]
  · isplitl []; · iexact HL
    isplitl [Hs10]; · iexact Hs10
    iexact HO
  iintro ⟨Hs10, Hv6, HO⟩
  iapply (seedWait_wp c 1 1 7 _ _ l h0 _) $$ [Hs11 HO]
  · isplitl []; · iexact HL
    isplitl [Hs11]; · iexact Hs11
    iexact HO
  iintro ⟨Hs11, Hv7, HO⟩
  iapply (seedWait_wp c 1 2 8 _ _ l h0 _) $$ [Hs12 HO]
  · isplitl []; · iexact HL
    isplitl [Hs12]; · iexact Hs12
    iexact HO
  iintro ⟨Hs12, Hv8, HO⟩
  iapply (seedWait_wp c 1 3 9 _ _ l h0 _) $$ [Hs13 HO]
  · isplitl []; · iexact HL
    isplitl [Hs13]; · iexact Hs13
    iexact HO
  iintro ⟨Hs13, Hv9, HO⟩
  iapply Hk
  isplitl [HO]; · iexact HO
  isplitl [Hpb]; · iexact Hpb
  isplitl [Hb00 Hb01 Hb02 Hb03 Hb10 Hb11 Hb12 Hb13]
  · isplitl [Hb00]; · iexact Hb00
    isplitl [Hb01]; · iexact Hb01
    isplitl [Hb02]; · iexact Hb02
    isplitl [Hb03]; · iexact Hb03
    isplitl [Hb10]; · iexact Hb10
    isplitl [Hb11]; · iexact Hb11
    isplitl [Hb12]; · iexact Hb12
    iexact Hb13
  isplitl [Hs00 Hs01 Hs02 Hs03 Hs10 Hs11 Hs12 Hs13]
  · isplitl [Hs00]; · iexact Hs00
    isplitl [Hs01]; · iexact Hs01
    isplitl [Hs02]; · iexact Hs02
    isplitl [Hs03]; · iexact Hs03
    isplitl [Hs10]; · iexact Hs10
    isplitl [Hs11]; · iexact Hs11
    isplitl [Hs12]; · iexact Hs12
    iexact Hs13
  isplitl [Hf0 Hf1]
  · isplitl [Hf0]; · iexact Hf0
    iexact Hf1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  isplitl [Hv8]; · iexact Hv8
  iexact Hv9

set_option maxHeartbeats 4000000 in
theorem hops_wp (c : Dev nD) (l : List Due) (k : Pr F) (Q : PUnit → sProp 𝕄) :
    iprop(recs m K ∗ Ow (F := F) c (duesHop l) ∗ all8 (fun d j => slotAt c d 0 j (seedV m c d j)) ∗ all8 (fun d j => slotAny (F := F) (down d c) d 1 j)
        ∗ all8 (fun d j => lane0 (F := F) c d j))
      ⊢ iprop(((Ow (F := F) c l ∗ all8 (fun d j => lane1 (F := F) c d j)) -∗ WP c k Q) -∗ WP c (pHop0 c k) Q) := by
  unfold pHop0
  iintro ⟨#HR, HO, ⟨Hs00, Hs01, Hs02, Hs03, Hs10, Hs11, Hs12, Hs13⟩, ⟨Hb00, Hb01, Hb02, Hb03, Hb10, Hb11, Hb12, Hb13⟩, ⟨Hl00, Hl01, Hl02, Hl03, Hl10, Hl11, Hl12, Hl13⟩⟩ Hk
  iapply (hop0_wp m K c _ 0 0 (dev3_eq c) _) $$ [HO Hs00 Hb00 Hl00]
  · isplitl []; · iexact HR
    isplitl [HO]; · iexact HO
    isplitl [Hs00]; · iexact Hs00
    isplitl [Hb00]; · iexact Hb00
    iexact Hl00
  iintro ⟨HO, Hl00⟩
  iapply (hop0_wp m K c _ 1 0 (dev4_eq c) _) $$ [HO Hs10 Hb10 Hl10]
  · isplitl []; · iexact HR
    isplitl [HO]; · iexact HO
    isplitl [Hs10]; · iexact Hs10
    isplitl [Hb10]; · iexact Hb10
    iexact Hl10
  iintro ⟨HO, Hl10⟩
  iapply (hop0_wp m K c _ 0 1 (dev5_eq c) _) $$ [HO Hs01 Hb01 Hl01]
  · isplitl []; · iexact HR
    isplitl [HO]; · iexact HO
    isplitl [Hs01]; · iexact Hs01
    isplitl [Hb01]; · iexact Hb01
    iexact Hl01
  iintro ⟨HO, Hl01⟩
  iapply (hop0_wp m K c _ 1 1 (dev6_eq c) _) $$ [HO Hs11 Hb11 Hl11]
  · isplitl []; · iexact HR
    isplitl [HO]; · iexact HO
    isplitl [Hs11]; · iexact Hs11
    isplitl [Hb11]; · iexact Hb11
    iexact Hl11
  iintro ⟨HO, Hl11⟩
  iapply (hop0_wp m K c _ 0 2 (dev7_eq c) _) $$ [HO Hs02 Hb02 Hl02]
  · isplitl []; · iexact HR
    isplitl [HO]; · iexact HO
    isplitl [Hs02]; · iexact Hs02
    isplitl [Hb02]; · iexact Hb02
    iexact Hl02
  iintro ⟨HO, Hl02⟩
  iapply (hop0_wp m K c _ 1 2 (dev8_eq c) _) $$ [HO Hs12 Hb12 Hl12]
  · isplitl []; · iexact HR
    isplitl [HO]; · iexact HO
    isplitl [Hs12]; · iexact Hs12
    isplitl [Hb12]; · iexact Hb12
    iexact Hl12
  iintro ⟨HO, Hl12⟩
  iapply (hop0_wp m K c _ 0 3 (dev9_eq c) _) $$ [HO Hs03 Hb03 Hl03]
  · isplitl []; · iexact HR
    isplitl [HO]; · iexact HO
    isplitl [Hs03]; · iexact Hs03
    isplitl [Hb03]; · iexact Hb03
    iexact Hl03
  iintro ⟨HO, Hl03⟩
  iapply (hop0_wp m K c _ 1 3 (dev10_eq c) _) $$ [HO Hs13 Hb13 Hl13]
  · isplitl []; · iexact HR
    isplitl [HO]; · iexact HO
    isplitl [Hs13]; · iexact Hs13
    isplitl [Hb13]; · iexact Hb13
    iexact Hl13
  iintro ⟨HO, Hl13⟩
  iapply Hk
  isplitl [HO]; · iexact HO
  isplitl [Hl00]; · iexact Hl00
  isplitl [Hl01]; · iexact Hl01
  isplitl [Hl02]; · iexact Hl02
  isplitl [Hl03]; · iexact Hl03
  isplitl [Hl10]; · iexact Hl10
  isplitl [Hl11]; · iexact Hl11
  isplitl [Hl12]; · iexact Hl12
  iexact Hl13

set_option maxHeartbeats 4000000 in
theorem step0_wp (c : Dev nD) (k : Pr F) (Q : PUnit → sProp 𝕄) :
    iprop(recs m K ∗ levAts L lv ∗ Ow (F := F) c (duesRing0 (duesRing1 [])) ∗ all8 (fun d j => lane1 (F := F) c d j)
        ∗ (Fly c 0 NS (stgAt c 0 (stageV m 0 c 0)) ∗ Fly c 1 NS (stgAt c 1 (stageV m 0 c 1))) ∗ (xTok m c 10 ∗ xTok m c 11))
      ⊢ iprop(((Ow (F := F) c (duesRing1 []) ∗ all8 (fun d j => lane2 (F := F) c d j)
            ∗ (Fly c 0 NS (stgAt c 0 (stageV m 1 c 0)) ∗ Fly c 1 NS (stgAt c 1 (stageV m 1 c 1)))) -∗ WP c k Q)
          -∗ WP c (pStep0 c k) Q) := by
  unfold pStep0
  iintro ⟨#HR, #HL, HO, ⟨Hl00, Hl01, Hl02, Hl03, Hl10, Hl11, Hl12, Hl13⟩, ⟨Hf0, Hf1⟩, ⟨Hx0, Hx1⟩⟩ Hk
  iapply (stageWait_wp c 0 0 _ _ (duesRing0 (duesRing1 [])) (by decide +kernel) _) $$ [Hf0 HO]
  · isplitl []; · iexact HL
    isplitl [Hf0]; · iexact Hf0
    iexact HO
  iintro ⟨Hg0, Hv0, HO⟩
  iapply (stageWait_wp c 1 1 _ _ (duesRing0 (duesRing1 [])) (by decide +kernel) _) $$ [Hf1 HO]
  · isplitl []; · iexact HL
    isplitl [Hf1]; · iexact Hf1
    iexact HO
  iintro ⟨Hg1, Hv1, HO⟩
  iapply (ring0_wp m K c _ _ 0 0 (dev11_eq c) (dev12_eq c) (.fre 0 1 0 :: .snd 1 1 0 :: .fre 0 0 1 :: .snd 1 0 1 :: .fre 0 1 1 :: .snd 1 1 1 :: .fre 0 0 2 :: .snd 1 0 2 :: .fre 0 1 2 :: .snd 1 1 2 :: .fre 0 0 3 :: .snd 1 0 3 :: .fre 0 1 3 :: .snd 1 1 3 :: duesRing1 []) (by decide +kernel) (by decide +kernel) (by decide +kernel)) $$ [HO Hl00 Hg0]
  · isplitl []; · iexact HR
    isplitl []; · iexact HL
    isplitl [HO]; · iexact HO
    isplitl [Hl00]; · iexact Hl00
    iexact Hg0
  iintro ⟨HO, Hl00, Hg0⟩
  iapply (ring0_wp m K c _ _ 1 0 (dev13_eq c) (dev14_eq c) (.fre 0 0 1 :: .snd 1 0 1 :: .fre 0 1 1 :: .snd 1 1 1 :: .fre 0 0 2 :: .snd 1 0 2 :: .fre 0 1 2 :: .snd 1 1 2 :: .fre 0 0 3 :: .snd 1 0 3 :: .fre 0 1 3 :: .snd 1 1 3 :: duesRing1 []) (by decide +kernel) (by decide +kernel) (by decide +kernel)) $$ [HO Hl10 Hg1]
  · isplitl []; · iexact HR
    isplitl []; · iexact HL
    isplitl [HO]; · iexact HO
    isplitl [Hl10]; · iexact Hl10
    iexact Hg1
  iintro ⟨HO, Hl10, Hg1⟩
  iapply (ring0_wp m K c _ _ 0 1 (dev15_eq c) (dev16_eq c) (.fre 0 1 1 :: .snd 1 1 1 :: .fre 0 0 2 :: .snd 1 0 2 :: .fre 0 1 2 :: .snd 1 1 2 :: .fre 0 0 3 :: .snd 1 0 3 :: .fre 0 1 3 :: .snd 1 1 3 :: duesRing1 []) (by decide +kernel) (by decide +kernel) (by decide +kernel)) $$ [HO Hl01 Hg0]
  · isplitl []; · iexact HR
    isplitl []; · iexact HL
    isplitl [HO]; · iexact HO
    isplitl [Hl01]; · iexact Hl01
    iexact Hg0
  iintro ⟨HO, Hl01, Hg0⟩
  iapply (ring0_wp m K c _ _ 1 1 (dev17_eq c) (dev18_eq c) (.fre 0 0 2 :: .snd 1 0 2 :: .fre 0 1 2 :: .snd 1 1 2 :: .fre 0 0 3 :: .snd 1 0 3 :: .fre 0 1 3 :: .snd 1 1 3 :: duesRing1 []) (by decide +kernel) (by decide +kernel) (by decide +kernel)) $$ [HO Hl11 Hg1]
  · isplitl []; · iexact HR
    isplitl []; · iexact HL
    isplitl [HO]; · iexact HO
    isplitl [Hl11]; · iexact Hl11
    iexact Hg1
  iintro ⟨HO, Hl11, Hg1⟩
  iapply (ring0_wp m K c _ _ 0 2 (dev19_eq c) (dev20_eq c) (.fre 0 1 2 :: .snd 1 1 2 :: .fre 0 0 3 :: .snd 1 0 3 :: .fre 0 1 3 :: .snd 1 1 3 :: duesRing1 []) (by decide +kernel) (by decide +kernel) (by decide +kernel)) $$ [HO Hl02 Hg0]
  · isplitl []; · iexact HR
    isplitl []; · iexact HL
    isplitl [HO]; · iexact HO
    isplitl [Hl02]; · iexact Hl02
    iexact Hg0
  iintro ⟨HO, Hl02, Hg0⟩
  iapply (ring0_wp m K c _ _ 1 2 (dev21_eq c) (dev22_eq c) (.fre 0 0 3 :: .snd 1 0 3 :: .fre 0 1 3 :: .snd 1 1 3 :: duesRing1 []) (by decide +kernel) (by decide +kernel) (by decide +kernel)) $$ [HO Hl12 Hg1]
  · isplitl []; · iexact HR
    isplitl []; · iexact HL
    isplitl [HO]; · iexact HO
    isplitl [Hl12]; · iexact Hl12
    iexact Hg1
  iintro ⟨HO, Hl12, Hg1⟩
  iapply (ring0_wp m K c _ _ 0 3 (dev23_eq c) (dev24_eq c) (.fre 0 1 3 :: .snd 1 1 3 :: duesRing1 []) (by decide +kernel) (by decide +kernel) (by decide +kernel)) $$ [HO Hl03 Hg0]
  · isplitl []; · iexact HR
    isplitl []; · iexact HL
    isplitl [HO]; · iexact HO
    isplitl [Hl03]; · iexact Hl03
    iexact Hg0
  iintro ⟨HO, Hl03, Hg0⟩
  iapply (ring0_wp m K c _ _ 1 3 (dev25_eq c) (dev26_eq c) (duesRing1 []) (by decide +kernel) (by decide +kernel) (by decide +kernel)) $$ [HO Hl13 Hg1]
  · isplitl []; · iexact HR
    isplitl []; · iexact HL
    isplitl [HO]; · iexact HO
    isplitl [Hl13]; · iexact Hl13
    iexact Hg1
  iintro ⟨HO, Hl13, Hg1⟩
  ihave Hg0 := (stg_forget (F := F) c 0 _) $$ Hg0
  iapply (stageStart_wp m c 0 0 1 _ _ (off9_1 c) _) $$ [Hx0 Hg0 Hv0]
  · isplitl [Hx0]; · iexact Hx0
    isplitl [Hg0]; · iexact Hg0
    iexact Hv0
  iintro Hf0
  ihave Hg1 := (stg_forget (F := F) c 1 _) $$ Hg1
  iapply (stageStart_wp m c 1 1 1 _ _ (off10_1 c) _) $$ [Hx1 Hg1 Hv1]
  · isplitl [Hx1]; · iexact Hx1
    isplitl [Hg1]; · iexact Hg1
    iexact Hv1
  iintro Hf1
  iapply Hk
  isplitl [HO]; · iexact HO
  isplitl [Hl00 Hl01 Hl02 Hl03 Hl10 Hl11 Hl12 Hl13]
  · isplitl [Hl00]; · iexact Hl00
    isplitl [Hl01]; · iexact Hl01
    isplitl [Hl02]; · iexact Hl02
    isplitl [Hl03]; · iexact Hl03
    isplitl [Hl10]; · iexact Hl10
    isplitl [Hl11]; · iexact Hl11
    isplitl [Hl12]; · iexact Hl12
    iexact Hl13
  isplitl [Hf0]; · iexact Hf0
  iexact Hf1

set_option maxHeartbeats 4000000 in
theorem step1_wp (c : Dev nD) (k : Pr F) (Q : PUnit → sProp 𝕄) :
    iprop(recs m K ∗ levAts L lv ∗ Ow (F := F) c (duesRing1 ([])) ∗ all8 (fun d j => lane2 (F := F) c d j)
        ∗ (Fly c 0 NS (stgAt c 0 (stageV m 1 c 0)) ∗ Fly c 1 NS (stgAt c 1 (stageV m 1 c 1))) ∗ (xTok m c 12 ∗ xTok m c 13))
      ⊢ iprop(((Ow (F := F) c ([]) ∗ all8 (fun d j => lane3 (F := F) c d j)
            ∗ (Fly c 0 NS (stgAt c 0 (stageV m 2 c 0)) ∗ Fly c 1 NS (stgAt c 1 (stageV m 2 c 1)))) -∗ WP c k Q)
          -∗ WP c (pStep1 c k) Q) := by
  unfold pStep1
  iintro ⟨#HR, #HL, HO, ⟨Hl00, Hl01, Hl02, Hl03, Hl10, Hl11, Hl12, Hl13⟩, ⟨Hf0, Hf1⟩, ⟨Hx0, Hx1⟩⟩ Hk
  iapply (stageWait_wp c 0 0 _ _ (duesRing1 ([])) (by decide +kernel) _) $$ [Hf0 HO]
  · isplitl []; · iexact HL
    isplitl [Hf0]; · iexact Hf0
    iexact HO
  iintro ⟨Hg0, Hv0, HO⟩
  iapply (stageWait_wp c 1 1 _ _ (duesRing1 ([])) (by decide +kernel) _) $$ [Hf1 HO]
  · isplitl []; · iexact HL
    isplitl [Hf1]; · iexact Hf1
    iexact HO
  iintro ⟨Hg1, Hv1, HO⟩
  iapply (ring1_wp m K c _ _ 0 0 (dev27_eq c) (dev28_eq c) (.fre 1 1 0 :: .snd 2 1 0 :: .fre 1 0 1 :: .snd 2 0 1 :: .fre 1 1 1 :: .snd 2 1 1 :: .fre 1 0 2 :: .snd 2 0 2 :: .fre 1 1 2 :: .snd 2 1 2 :: .fre 1 0 3 :: .snd 2 0 3 :: .fre 1 1 3 :: .snd 2 1 3 :: []) (by decide +kernel) (by decide +kernel) (by decide +kernel)) $$ [HO Hl00 Hg0]
  · isplitl []; · iexact HR
    isplitl []; · iexact HL
    isplitl [HO]; · iexact HO
    isplitl [Hl00]; · iexact Hl00
    iexact Hg0
  iintro ⟨HO, Hl00, Hg0⟩
  iapply (ring1_wp m K c _ _ 1 0 (dev29_eq c) (dev30_eq c) (.fre 1 0 1 :: .snd 2 0 1 :: .fre 1 1 1 :: .snd 2 1 1 :: .fre 1 0 2 :: .snd 2 0 2 :: .fre 1 1 2 :: .snd 2 1 2 :: .fre 1 0 3 :: .snd 2 0 3 :: .fre 1 1 3 :: .snd 2 1 3 :: []) (by decide +kernel) (by decide +kernel) (by decide +kernel)) $$ [HO Hl10 Hg1]
  · isplitl []; · iexact HR
    isplitl []; · iexact HL
    isplitl [HO]; · iexact HO
    isplitl [Hl10]; · iexact Hl10
    iexact Hg1
  iintro ⟨HO, Hl10, Hg1⟩
  iapply (ring1_wp m K c _ _ 0 1 (dev31_eq c) (dev32_eq c) (.fre 1 1 1 :: .snd 2 1 1 :: .fre 1 0 2 :: .snd 2 0 2 :: .fre 1 1 2 :: .snd 2 1 2 :: .fre 1 0 3 :: .snd 2 0 3 :: .fre 1 1 3 :: .snd 2 1 3 :: []) (by decide +kernel) (by decide +kernel) (by decide +kernel)) $$ [HO Hl01 Hg0]
  · isplitl []; · iexact HR
    isplitl []; · iexact HL
    isplitl [HO]; · iexact HO
    isplitl [Hl01]; · iexact Hl01
    iexact Hg0
  iintro ⟨HO, Hl01, Hg0⟩
  iapply (ring1_wp m K c _ _ 1 1 (dev33_eq c) (dev34_eq c) (.fre 1 0 2 :: .snd 2 0 2 :: .fre 1 1 2 :: .snd 2 1 2 :: .fre 1 0 3 :: .snd 2 0 3 :: .fre 1 1 3 :: .snd 2 1 3 :: []) (by decide +kernel) (by decide +kernel) (by decide +kernel)) $$ [HO Hl11 Hg1]
  · isplitl []; · iexact HR
    isplitl []; · iexact HL
    isplitl [HO]; · iexact HO
    isplitl [Hl11]; · iexact Hl11
    iexact Hg1
  iintro ⟨HO, Hl11, Hg1⟩
  iapply (ring1_wp m K c _ _ 0 2 (dev35_eq c) (dev36_eq c) (.fre 1 1 2 :: .snd 2 1 2 :: .fre 1 0 3 :: .snd 2 0 3 :: .fre 1 1 3 :: .snd 2 1 3 :: []) (by decide +kernel) (by decide +kernel) (by decide +kernel)) $$ [HO Hl02 Hg0]
  · isplitl []; · iexact HR
    isplitl []; · iexact HL
    isplitl [HO]; · iexact HO
    isplitl [Hl02]; · iexact Hl02
    iexact Hg0
  iintro ⟨HO, Hl02, Hg0⟩
  iapply (ring1_wp m K c _ _ 1 2 (dev37_eq c) (dev38_eq c) (.fre 1 0 3 :: .snd 2 0 3 :: .fre 1 1 3 :: .snd 2 1 3 :: []) (by decide +kernel) (by decide +kernel) (by decide +kernel)) $$ [HO Hl12 Hg1]
  · isplitl []; · iexact HR
    isplitl []; · iexact HL
    isplitl [HO]; · iexact HO
    isplitl [Hl12]; · iexact Hl12
    iexact Hg1
  iintro ⟨HO, Hl12, Hg1⟩
  iapply (ring1_wp m K c _ _ 0 3 (dev39_eq c) (dev40_eq c) (.fre 1 1 3 :: .snd 2 1 3 :: []) (by decide +kernel) (by decide +kernel) (by decide +kernel)) $$ [HO Hl03 Hg0]
  · isplitl []; · iexact HR
    isplitl []; · iexact HL
    isplitl [HO]; · iexact HO
    isplitl [Hl03]; · iexact Hl03
    iexact Hg0
  iintro ⟨HO, Hl03, Hg0⟩
  iapply (ring1_wp m K c _ _ 1 3 (dev41_eq c) (dev42_eq c) ([]) (by decide +kernel) (by decide +kernel) (by decide +kernel)) $$ [HO Hl13 Hg1]
  · isplitl []; · iexact HR
    isplitl []; · iexact HL
    isplitl [HO]; · iexact HO
    isplitl [Hl13]; · iexact Hl13
    iexact Hg1
  iintro ⟨HO, Hl13, Hg1⟩
  ihave Hg0 := (stg_forget (F := F) c 0 _) $$ Hg0
  iapply (stageStart_wp m c 0 0 2 _ _ (off9_2 c) _) $$ [Hx0 Hg0 Hv0]
  · isplitl [Hx0]; · iexact Hx0
    isplitl [Hg0]; · iexact Hg0
    iexact Hv0
  iintro Hf0
  ihave Hg1 := (stg_forget (F := F) c 1 _) $$ Hg1
  iapply (stageStart_wp m c 1 1 2 _ _ (off10_2 c) _) $$ [Hx1 Hg1 Hv1]
  · isplitl [Hx1]; · iexact Hx1
    isplitl [Hg1]; · iexact Hg1
    iexact Hv1
  iintro Hf1
  iapply Hk
  isplitl [HO]; · iexact HO
  isplitl [Hl00 Hl01 Hl02 Hl03 Hl10 Hl11 Hl12 Hl13]
  · isplitl [Hl00]; · iexact Hl00
    isplitl [Hl01]; · iexact Hl01
    isplitl [Hl02]; · iexact Hl02
    isplitl [Hl03]; · iexact Hl03
    isplitl [Hl10]; · iexact Hl10
    isplitl [Hl11]; · iexact Hl11
    isplitl [Hl12]; · iexact Hl12
    iexact Hl13
  isplitl [Hf0]; · iexact Hf0
  iexact Hf1

set_option maxHeartbeats 4000000 in
theorem step2_wp (c : Dev nD) (k : Pr F) (Q : PUnit → sProp 𝕄) :
    iprop(recs m K ∗ levAts L lv ∗ Ow (F := F) c [] ∗ all8 (fun d j => lane3 (F := F) c d j)
        ∗ (Fly c 0 NS (stgAt c 0 (stageV m 2 c 0)) ∗ Fly c 1 NS (stgAt c 1 (stageV m 2 c 1)))
        ∗ all8 (fun d j => outAny (F := F) c d j) ∗ (locV (F := F) c 10 ∗ locV (F := F) c 11 ∗ locV (F := F) c 12 ∗ locV (F := F) c 13 ∗ locV (F := F) c 14 ∗ locV (F := F) c 15 ∗ locV (F := F) c 16 ∗ locV (F := F) c 17))
      ⊢ iprop(((Ow (F := F) c [] ∗ all8 (fun d j => lane4 (F := F) c d j) ∗ (stgAny (F := F) c 0 ∗ stgAny (F := F) c 1) ∗ (locV (F := F) c 0 ∗ locV (F := F) c 1)
            ∗ (Fly c 10 NO iprop(outAt c 0 0 (acc m 3 c 0 0) ∗ slotAny (F := F) c 0 1 0) ∗ Fly c 12 NO iprop(outAt c 0 1 (acc m 3 c 0 1) ∗ slotAny (F := F) c 0 1 1) ∗ Fly c 14 NO iprop(outAt c 0 2 (acc m 3 c 0 2) ∗ slotAny (F := F) c 0 1 2) ∗ Fly c 16 NO iprop(outAt c 0 3 (acc m 3 c 0 3) ∗ slotAny (F := F) c 0 1 3) ∗ Fly c 11 NO iprop(outAt c 1 0 (acc m 3 c 1 0) ∗ slotAny (F := F) c 1 1 0) ∗ Fly c 13 NO iprop(outAt c 1 1 (acc m 3 c 1 1) ∗ slotAny (F := F) c 1 1 1) ∗ Fly c 15 NO iprop(outAt c 1 2 (acc m 3 c 1 2) ∗ slotAny (F := F) c 1 1 2) ∗ Fly c 17 NO iprop(outAt c 1 3 (acc m 3 c 1 3) ∗ slotAny (F := F) c 1 1 3))) -∗ WP c k Q)
          -∗ WP c (pStep2 c k) Q) := by
  unfold pStep2
  iintro ⟨#HR, #HL, HO, ⟨Hl00, Hl01, Hl02, Hl03, Hl10, Hl11, Hl12, Hl13⟩, ⟨Hf0, Hf1⟩, ⟨Ho00, Ho01, Ho02, Ho03, Ho10, Ho11, Ho12, Ho13⟩, ⟨Hv10, Hv11, Hv12, Hv13, Hv14, Hv15, Hv16, Hv17⟩⟩ Hk
  iapply (stageWait_wp c 0 0 _ _ [] rfl _) $$ [Hf0 HO]
  · isplitl []; · iexact HL
    isplitl [Hf0]; · iexact Hf0
    iexact HO
  iintro ⟨Hg0, Hv0, HO⟩
  iapply (stageWait_wp c 1 1 _ _ [] rfl _) $$ [Hf1 HO]
  · isplitl []; · iexact HL
    isplitl [Hf1]; · iexact Hf1
    iexact HO
  iintro ⟨Hg1, Hv1, HO⟩
  iapply (last_wp m K c 0 0 10) $$ [HO Hl00 Hg0 Ho00 Hv10]
  · isplitl []; · iexact HR
    isplitl []; · iexact HL
    isplitl [HO]; · iexact HO
    isplitl [Hl00]; · iexact Hl00
    isplitl [Hg0]; · iexact Hg0
    isplitl [Ho00]; · iexact Ho00
    iexact Hv10
  iintro ⟨HO, Hl00, Hg0, Ho00⟩
  iapply (last_wp m K c 1 0 11) $$ [HO Hl10 Hg1 Ho10 Hv11]
  · isplitl []; · iexact HR
    isplitl []; · iexact HL
    isplitl [HO]; · iexact HO
    isplitl [Hl10]; · iexact Hl10
    isplitl [Hg1]; · iexact Hg1
    isplitl [Ho10]; · iexact Ho10
    iexact Hv11
  iintro ⟨HO, Hl10, Hg1, Ho10⟩
  iapply (last_wp m K c 0 1 12) $$ [HO Hl01 Hg0 Ho01 Hv12]
  · isplitl []; · iexact HR
    isplitl []; · iexact HL
    isplitl [HO]; · iexact HO
    isplitl [Hl01]; · iexact Hl01
    isplitl [Hg0]; · iexact Hg0
    isplitl [Ho01]; · iexact Ho01
    iexact Hv12
  iintro ⟨HO, Hl01, Hg0, Ho01⟩
  iapply (last_wp m K c 1 1 13) $$ [HO Hl11 Hg1 Ho11 Hv13]
  · isplitl []; · iexact HR
    isplitl []; · iexact HL
    isplitl [HO]; · iexact HO
    isplitl [Hl11]; · iexact Hl11
    isplitl [Hg1]; · iexact Hg1
    isplitl [Ho11]; · iexact Ho11
    iexact Hv13
  iintro ⟨HO, Hl11, Hg1, Ho11⟩
  iapply (last_wp m K c 0 2 14) $$ [HO Hl02 Hg0 Ho02 Hv14]
  · isplitl []; · iexact HR
    isplitl []; · iexact HL
    isplitl [HO]; · iexact HO
    isplitl [Hl02]; · iexact Hl02
    isplitl [Hg0]; · iexact Hg0
    isplitl [Ho02]; · iexact Ho02
    iexact Hv14
  iintro ⟨HO, Hl02, Hg0, Ho02⟩
  iapply (last_wp m K c 1 2 15) $$ [HO Hl12 Hg1 Ho12 Hv15]
  · isplitl []; · iexact HR
    isplitl []; · iexact HL
    isplitl [HO]; · iexact HO
    isplitl [Hl12]; · iexact Hl12
    isplitl [Hg1]; · iexact Hg1
    isplitl [Ho12]; · iexact Ho12
    iexact Hv15
  iintro ⟨HO, Hl12, Hg1, Ho12⟩
  iapply (last_wp m K c 0 3 16) $$ [HO Hl03 Hg0 Ho03 Hv16]
  · isplitl []; · iexact HR
    isplitl []; · iexact HL
    isplitl [HO]; · iexact HO
    isplitl [Hl03]; · iexact Hl03
    isplitl [Hg0]; · iexact Hg0
    isplitl [Ho03]; · iexact Ho03
    iexact Hv16
  iintro ⟨HO, Hl03, Hg0, Ho03⟩
  iapply (last_wp m K c 1 3 17) $$ [HO Hl13 Hg1 Ho13 Hv17]
  · isplitl []; · iexact HR
    isplitl []; · iexact HL
    isplitl [HO]; · iexact HO
    isplitl [Hl13]; · iexact Hl13
    isplitl [Hg1]; · iexact Hg1
    isplitl [Ho13]; · iexact Ho13
    iexact Hv17
  iintro ⟨HO, Hl13, Hg1, Ho13⟩
  ihave Hg0 := (stg_forget (F := F) c 0 _) $$ Hg0
  ihave Hg1 := (stg_forget (F := F) c 1 _) $$ Hg1
  iapply Hk
  isplitl [HO]; · iexact HO
  isplitl [Hl00 Hl01 Hl02 Hl03 Hl10 Hl11 Hl12 Hl13]
  · isplitl [Hl00]; · iexact Hl00
    isplitl [Hl01]; · iexact Hl01
    isplitl [Hl02]; · iexact Hl02
    isplitl [Hl03]; · iexact Hl03
    isplitl [Hl10]; · iexact Hl10
    isplitl [Hl11]; · iexact Hl11
    isplitl [Hl12]; · iexact Hl12
    iexact Hl13
  isplitl [Hg0 Hg1]
  · isplitl [Hg0]; · iexact Hg0
    iexact Hg1
  isplitl [Hv0 Hv1]
  · isplitl [Hv0]; · iexact Hv0
    iexact Hv1
  isplitl [Ho00]; · iexact Ho00
  isplitl [Ho01]; · iexact Ho01
  isplitl [Ho02]; · iexact Ho02
  isplitl [Ho03]; · iexact Ho03
  isplitl [Ho10]; · iexact Ho10
  isplitl [Ho11]; · iexact Ho11
  isplitl [Ho12]; · iexact Ho12
  iexact Ho13

set_option maxHeartbeats 4000000 in
theorem tail_wp (c : Dev nD) (k : Pr F) (Q : PUnit → sProp 𝕄) :
    iprop(recs m K ∗ levAts L lv ∗ Ow (F := F) c [] ∗ all8 (fun d j => lane4 (F := F) c d j)
        ∗ (Fly c 10 NO iprop(outAt c 0 0 (acc m 3 c 0 0) ∗ slotAny (F := F) c 0 1 0) ∗ Fly c 12 NO iprop(outAt c 0 1 (acc m 3 c 0 1) ∗ slotAny (F := F) c 0 1 1) ∗ Fly c 14 NO iprop(outAt c 0 2 (acc m 3 c 0 2) ∗ slotAny (F := F) c 0 1 2) ∗ Fly c 16 NO iprop(outAt c 0 3 (acc m 3 c 0 3) ∗ slotAny (F := F) c 0 1 3) ∗ Fly c 11 NO iprop(outAt c 1 0 (acc m 3 c 1 0) ∗ slotAny (F := F) c 1 1 0) ∗ Fly c 13 NO iprop(outAt c 1 1 (acc m 3 c 1 1) ∗ slotAny (F := F) c 1 1 1) ∗ Fly c 15 NO iprop(outAt c 1 2 (acc m 3 c 1 2) ∗ slotAny (F := F) c 1 1 2) ∗ Fly c 17 NO iprop(outAt c 1 3 (acc m 3 c 1 3) ∗ slotAny (F := F) c 1 1 3)))
      ⊢ iprop(((Ow (F := F) c [] ∗ all8 (fun d j => lane5 (F := F) c d j) ∗ all8 (fun d j => slotAny (F := F) c d 0 j) ∗ all8 (fun d j => slotAny (F := F) c d 1 j)
            ∗ all8 (fun d j => outAt c d j (acc m 3 c d j)) ∗ (locV (F := F) c 10 ∗ locV (F := F) c 11 ∗ locV (F := F) c 12 ∗ locV (F := F) c 13 ∗ locV (F := F) c 14 ∗ locV (F := F) c 15 ∗ locV (F := F) c 16 ∗ locV (F := F) c 17)) -∗ WP c k Q)
          -∗ WP c (pTail c k) Q) := by
  unfold pTail
  iintro ⟨#HR, #HL, HO, ⟨Hl00, Hl01, Hl02, Hl03, Hl10, Hl11, Hl12, Hl13⟩, ⟨Ho00, Ho01, Ho02, Ho03, Ho10, Ho11, Ho12, Ho13⟩⟩ Hk
  iapply (sent_wp m K c 0 0) $$ [HO Hl00]
  · isplitl []; · iexact HR
    isplitl []; · iexact HL
    isplitl [HO]; · iexact HO
    iexact Hl00
  iintro ⟨HO, Hl00, Ha00⟩
  iapply (sent_wp m K c 1 0) $$ [HO Hl10]
  · isplitl []; · iexact HR
    isplitl []; · iexact HL
    isplitl [HO]; · iexact HO
    iexact Hl10
  iintro ⟨HO, Hl10, Ha10⟩
  iapply (sent_wp m K c 0 1) $$ [HO Hl01]
  · isplitl []; · iexact HR
    isplitl []; · iexact HL
    isplitl [HO]; · iexact HO
    iexact Hl01
  iintro ⟨HO, Hl01, Ha01⟩
  iapply (sent_wp m K c 1 1) $$ [HO Hl11]
  · isplitl []; · iexact HR
    isplitl []; · iexact HL
    isplitl [HO]; · iexact HO
    iexact Hl11
  iintro ⟨HO, Hl11, Ha11⟩
  iapply (sent_wp m K c 0 2) $$ [HO Hl02]
  · isplitl []; · iexact HR
    isplitl []; · iexact HL
    isplitl [HO]; · iexact HO
    iexact Hl02
  iintro ⟨HO, Hl02, Ha02⟩
  iapply (sent_wp m K c 1 2) $$ [HO Hl12]
  · isplitl []; · iexact HR
    isplitl []; · iexact HL
    isplitl [HO]; · iexact HO
    iexact Hl12
  iintro ⟨HO, Hl12, Ha12⟩
  iapply (sent_wp m K c 0 3) $$ [HO Hl03]
  · isplitl []; · iexact HR
    isplitl []; · iexact HL
    isplitl [HO]; · iexact HO
    iexact Hl03
  iintro ⟨HO, Hl03, Ha03⟩
  iapply (sent_wp m K c 1 3) $$ [HO Hl13]
  · isplitl []; · iexact HR
    isplitl []; · iexact HL
    isplitl [HO]; · iexact HO
    iexact Hl13
  iintro ⟨HO, Hl13, Ha13⟩
  iapply (outWait_wp c 0 0 10 [] rfl _) $$ [Ho00 HO]
  · isplitl []; · iexact HL
    isplitl [Ho00]; · iexact Ho00
    iexact HO
  iintro ⟨⟨Ho00, Hb00⟩, Hv10, HO⟩
  iapply (outWait_wp c 1 0 11 [] rfl _) $$ [Ho10 HO]
  · isplitl []; · iexact HL
    isplitl [Ho10]; · iexact Ho10
    iexact HO
  iintro ⟨⟨Ho10, Hb10⟩, Hv11, HO⟩
  iapply (outWait_wp c 0 1 12 [] rfl _) $$ [Ho01 HO]
  · isplitl []; · iexact HL
    isplitl [Ho01]; · iexact Ho01
    iexact HO
  iintro ⟨⟨Ho01, Hb01⟩, Hv12, HO⟩
  iapply (outWait_wp c 1 1 13 [] rfl _) $$ [Ho11 HO]
  · isplitl []; · iexact HL
    isplitl [Ho11]; · iexact Ho11
    iexact HO
  iintro ⟨⟨Ho11, Hb11⟩, Hv13, HO⟩
  iapply (outWait_wp c 0 2 14 [] rfl _) $$ [Ho02 HO]
  · isplitl []; · iexact HL
    isplitl [Ho02]; · iexact Ho02
    iexact HO
  iintro ⟨⟨Ho02, Hb02⟩, Hv14, HO⟩
  iapply (outWait_wp c 1 2 15 [] rfl _) $$ [Ho12 HO]
  · isplitl []; · iexact HL
    isplitl [Ho12]; · iexact Ho12
    iexact HO
  iintro ⟨⟨Ho12, Hb12⟩, Hv15, HO⟩
  iapply (outWait_wp c 0 3 16 [] rfl _) $$ [Ho03 HO]
  · isplitl []; · iexact HL
    isplitl [Ho03]; · iexact Ho03
    iexact HO
  iintro ⟨⟨Ho03, Hb03⟩, Hv16, HO⟩
  iapply (outWait_wp c 1 3 17 [] rfl _) $$ [Ho13 HO]
  · isplitl []; · iexact HL
    isplitl [Ho13]; · iexact Ho13
    iexact HO
  iintro ⟨⟨Ho13, Hb13⟩, Hv17, HO⟩
  iapply Hk
  isplitl [HO]; · iexact HO
  isplitl [Hl00 Hl01 Hl02 Hl03 Hl10 Hl11 Hl12 Hl13]
  · isplitl [Hl00]; · iexact Hl00
    isplitl [Hl01]; · iexact Hl01
    isplitl [Hl02]; · iexact Hl02
    isplitl [Hl03]; · iexact Hl03
    isplitl [Hl10]; · iexact Hl10
    isplitl [Hl11]; · iexact Hl11
    isplitl [Hl12]; · iexact Hl12
    iexact Hl13
  isplitl [Ha00 Ha01 Ha02 Ha03 Ha10 Ha11 Ha12 Ha13]
  · isplitl [Ha00]; · iexact Ha00
    isplitl [Ha01]; · iexact Ha01
    isplitl [Ha02]; · iexact Ha02
    isplitl [Ha03]; · iexact Ha03
    isplitl [Ha10]; · iexact Ha10
    isplitl [Ha11]; · iexact Ha11
    isplitl [Ha12]; · iexact Ha12
    iexact Ha13
  isplitl [Hb00 Hb01 Hb02 Hb03 Hb10 Hb11 Hb12 Hb13]
  · isplitl [Hb00]; · iexact Hb00
    isplitl [Hb01]; · iexact Hb01
    isplitl [Hb02]; · iexact Hb02
    isplitl [Hb03]; · iexact Hb03
    isplitl [Hb10]; · iexact Hb10
    isplitl [Hb11]; · iexact Hb11
    isplitl [Hb12]; · iexact Hb12
    iexact Hb13
  isplitl [Ho00 Ho01 Ho02 Ho03 Ho10 Ho11 Ho12 Ho13]
  · isplitl [Ho00]; · iexact Ho00
    isplitl [Ho01]; · iexact Ho01
    isplitl [Ho02]; · iexact Ho02
    isplitl [Ho03]; · iexact Ho03
    isplitl [Ho10]; · iexact Ho10
    isplitl [Ho11]; · iexact Ho11
    isplitl [Ho12]; · iexact Ho12
    iexact Ho13
  isplitl [Hv10]; · iexact Hv10
  isplitl [Hv11]; · iexact Hv11
  isplitl [Hv12]; · iexact Hv12
  isplitl [Hv13]; · iexact Hv13
  isplitl [Hv14]; · iexact Hv14
  isplitl [Hv15]; · iexact Hv15
  isplitl [Hv16]; · iexact Hv16
  iexact Hv17

/-! ## The body -/

/-- What a device starts with, beside what every device knows. -/
def bodyPre (c : Dev nD) : sProp 𝕄 :=
  iprop((dutyTok ER (barC (up 0 c)) 0 true ∗ dutyTok ER (barC (up 1 c)) 0 false ∗ cr (F := F) (barC c) 0 2 ∗ pos (F := F) (barC c) 0)
    ∗ all8 (fun d j => lane0 (F := F) c d j)
    ∗ all8 (fun d j => slotAny (F := F) c d 0 j) ∗ all8 (fun d j => slotAny (F := F) c d 1 j) ∗ (stgAny (F := F) c 0 ∗ stgAny (F := F) c 1)
    ∗ all8 (fun d j => outAny (F := F) c d j)
    ∗ (xTok m c 0 ∗ xTok m c 1 ∗ xTok m c 2 ∗ xTok m c 3 ∗ xTok m c 4 ∗ xTok m c 5 ∗ xTok m c 6 ∗ xTok m c 7 ∗ xTok m c 8 ∗ xTok m c 9 ∗ xTok m c 10 ∗ xTok m c 11 ∗ xTok m c 12 ∗ xTok m c 13)
    ∗ (locV (F := F) c 0 ∗ locV (F := F) c 1 ∗ locV (F := F) c 2 ∗ locV (F := F) c 3 ∗ locV (F := F) c 4 ∗ locV (F := F) c 5 ∗ locV (F := F) c 6 ∗ locV (F := F) c 7 ∗ locV (F := F) c 8 ∗ locV (F := F) c 9 ∗ locV (F := F) c 10 ∗ locV (F := F) c 11 ∗ locV (F := F) c 12 ∗ locV (F := F) c 13 ∗ locV (F := F) c 14 ∗ locV (F := F) c 15 ∗ locV (F := F) c 16 ∗ locV (F := F) c 17))

/-- What it ends with. -/
def bodyPost (c : Dev nD) : sProp 𝕄 :=
  iprop(semVal (barC c) 0 ∗ all8 (fun d j => laneZ (F := F) c d j)
    ∗ all8 (fun d j => slotAny (F := F) c d 0 j) ∗ all8 (fun d j => slotAny (F := F) c d 1 j) ∗ (stgAny (F := F) c 0 ∗ stgAny (F := F) c 1)
    ∗ all8 (fun d j => outAt c d j (acc m 3 c d j))
    ∗ (locV (F := F) c 0 ∗ locV (F := F) c 1 ∗ locV (F := F) c 2 ∗ locV (F := F) c 3 ∗ locV (F := F) c 4 ∗ locV (F := F) c 5 ∗ locV (F := F) c 6 ∗ locV (F := F) c 7 ∗ locV (F := F) c 8 ∗ locV (F := F) c 9 ∗ locV (F := F) c 10 ∗ locV (F := F) c 11 ∗ locV (F := F) c 12 ∗ locV (F := F) c 13 ∗ locV (F := F) c 14 ∗ locV (F := F) c 15 ∗ locV (F := F) c 16 ∗ locV (F := F) c 17))

set_option maxHeartbeats 4000000 in
theorem body_wp (c : Dev nD) (Q : PUnit → sProp 𝕄) :
    iprop(recs m K ∗ levAts L lv ∗ Ow (F := F) c dues ∗ bodyPre m c)
      ⊢ iprop(((Ow (F := F) c [] ∗ bodyPost m c) -∗ Q ⟨⟩) -∗ WP c (pBody c) Q) := by
  unfold bodyPre pBody
  iintro ⟨#HR, #HL, HO, Hbar, Hl, Ha, Hb, Hg, Ho, ⟨Hx0, Hx1, Hx2, Hx3, Hx4, Hx5, Hx6, Hx7, Hx8, Hx9, Hx10, Hx11, Hx12, Hx13⟩, ⟨Hv0, Hv1, Hv2, Hv3, Hv4, Hv5, Hv6, Hv7, Hv8, Hv9, Hv10, Hv11, Hv12, Hv13, Hv14, Hv15, Hv16, Hv17⟩⟩ Hk
  iapply (head_wp m K c (duesHop (duesRing0 (duesRing1 []))) (by decide +kernel) (by decide +kernel)) $$ [HO Hbar Ha Hb Hg Hx0 Hx1 Hx2 Hx3 Hx4 Hx5 Hx6 Hx7 Hx8 Hx9 Hv0 Hv1 Hv2 Hv3 Hv4 Hv5 Hv6 Hv7 Hv8 Hv9]
  · isplitl []; · iexact HR
    isplitl []; · iexact HL
    isplitl [HO]; · iexact HO
    isplitl [Hbar]; · iexact Hbar
    isplitl [Ha]; · iexact Ha
    isplitl [Hb]; · iexact Hb
    isplitl [Hg]; · iexact Hg
    isplitl [Hx0 Hx1 Hx2 Hx3 Hx4 Hx5 Hx6 Hx7 Hx8 Hx9]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      iexact Hx9
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    iexact Hv9
  iintro ⟨HO, Hpb, Hb, Ha, Hf, ⟨Hv2, Hv3, Hv4, Hv5, Hv6, Hv7, Hv8, Hv9⟩⟩
  iapply (hops_wp m K c (duesRing0 (duesRing1 []))) $$ [HO Ha Hb Hl]
  · isplitl []; · iexact HR
    isplitl [HO]; · iexact HO
    isplitl [Ha]; · iexact Ha
    isplitl [Hb]; · iexact Hb
    iexact Hl
  iintro ⟨HO, Hl⟩
  iapply (step0_wp m K c) $$ [HO Hl Hf Hx10 Hx11]
  · isplitl []; · iexact HR
    isplitl []; · iexact HL
    isplitl [HO]; · iexact HO
    isplitl [Hl]; · iexact Hl
    isplitl [Hf]; · iexact Hf
    isplitl [Hx10]; · iexact Hx10
    iexact Hx11
  iintro ⟨HO, Hl, Hf⟩
  iapply (step1_wp m K c) $$ [HO Hl Hf Hx12 Hx13]
  · isplitl []; · iexact HR
    isplitl []; · iexact HL
    isplitl [HO]; · iexact HO
    isplitl [Hl]; · iexact Hl
    isplitl [Hf]; · iexact Hf
    isplitl [Hx12]; · iexact Hx12
    iexact Hx13
  iintro ⟨HO, Hl, Hf⟩
  iapply (step2_wp m K c) $$ [HO Hl Hf Ho Hv10 Hv11 Hv12 Hv13 Hv14 Hv15 Hv16 Hv17]
  · isplitl []; · iexact HR
    isplitl []; · iexact HL
    isplitl [HO]; · iexact HO
    isplitl [Hl]; · iexact Hl
    isplitl [Hf]; · iexact Hf
    isplitl [Ho]; · iexact Ho
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hv16]; · iexact Hv16
    iexact Hv17
  iintro ⟨HO, Hl, Hg, ⟨Hv0, Hv1⟩, Ho⟩
  iapply (tail_wp m K c) $$ [HO Hl Ho]
  · isplitl []; · iexact HR
    isplitl []; · iexact HL
    isplitl [HO]; · iexact HO
    isplitl [Hl]; · iexact Hl
    iexact Ho
  iintro ⟨HO, ⟨Hl00, Hl01, Hl02, Hl03, Hl10, Hl11, Hl12, Hl13⟩, Ha, Hb, Ho, ⟨Hv10, Hv11, Hv12, Hv13, Hv14, Hv15, Hv16, Hv17⟩⟩
  imod (close_cell m K c iB 1 (by show 1 ≤ 1; decide)) $$ [Hpb] with Hpb
  · isplitl []; · iexact HR
    iexact Hpb
  imod (lane_close m K c 0 0) $$ [Hl00] with Hl00
  · isplitl []; · iexact HR
    iexact Hl00
  imod (lane_close m K c 0 1) $$ [Hl01] with Hl01
  · isplitl []; · iexact HR
    iexact Hl01
  imod (lane_close m K c 0 2) $$ [Hl02] with Hl02
  · isplitl []; · iexact HR
    iexact Hl02
  imod (lane_close m K c 0 3) $$ [Hl03] with Hl03
  · isplitl []; · iexact HR
    iexact Hl03
  imod (lane_close m K c 1 0) $$ [Hl10] with Hl10
  · isplitl []; · iexact HR
    iexact Hl10
  imod (lane_close m K c 1 1) $$ [Hl11] with Hl11
  · isplitl []; · iexact HR
    iexact Hl11
  imod (lane_close m K c 1 2) $$ [Hl12] with Hl12
  · isplitl []; · iexact HR
    iexact Hl12
  imod (lane_close m K c 1 3) $$ [Hl13] with Hl13
  · isplitl []; · iexact HR
    iexact Hl13
  rw [wp_ret]; imodintro
  iapply Hk
  unfold bodyPost
  isplitl [HO]; · iexact HO
  isplitl [Hpb]; · iexact Hpb
  isplitl [Hl00 Hl01 Hl02 Hl03 Hl10 Hl11 Hl12 Hl13]
  · isplitl [Hl00]; · iexact Hl00
    isplitl [Hl01]; · iexact Hl01
    isplitl [Hl02]; · iexact Hl02
    isplitl [Hl03]; · iexact Hl03
    isplitl [Hl10]; · iexact Hl10
    isplitl [Hl11]; · iexact Hl11
    isplitl [Hl12]; · iexact Hl12
    iexact Hl13
  isplitl [Ha]; · iexact Ha
  isplitl [Hb]; · iexact Hb
  isplitl [Hg]; · iexact Hg
  isplitl [Ho]; · iexact Ho
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [Hv10]; · iexact Hv10
  isplitl [Hv11]; · iexact Hv11
  isplitl [Hv12]; · iexact Hv12
  isplitl [Hv13]; · iexact Hv13
  isplitl [Hv14]; · iexact Hv14
  isplitl [Hv15]; · iexact Hv15
  isplitl [Hv16]; · iexact Hv16
  iexact Hv17

end Cert.KernelIdeal.Pf
-- ==== Proof.KernelIdealBufs.lean ====
/-
# The buffers, cut and joined

The slots of a direction are one buffer, cut into eight rectangles; the result is one buffer, cut into eight bands of rows; the argument
is read at fourteen shares at once.
-/
module

public import proofs.«01_k».proof.Proof.KernelIdealBody
public import Idealize.ShloMosaic.Lib.ViewIndex

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## Pieces of a buffer -/

/-- A buffer whole, at some contents, gives each of a family of disjoint pieces that cover it, at some contents; -/
theorem cut {T : Type} [Fintype T] [DecidableEq T] (ℓ : Loc nD τ sig) (S : T → Finset (Idx ℓ)) (hd : ∀ t t', t ≠ t' → Disjoint (S t) (S t'))
    (hc : Finset.univ.biUnion S = Finset.univ) :
    iprop(∃ f : Buf (Elt F) ℓ, ℓ ↦{fullShare} f) ⊢ (bigSep Finset.univ fun t => iprop(∃ f : Buf (Elt F) ℓ, ℓ ↦[S t]{fullShare} f) : sProp 𝕄) := by
  iintro ⟨%f, H⟩
  ihave H2 := (Entails.of_eq (show (ℓ ↦{fullShare} f : sProp 𝕄) = bigSep Finset.univ fun t => ℓ ↦[S t]{fullShare} f by
    rw [← pointsTo_biUnion Finset.univ S fun t _ t' _ => hd t t', hc])) $$ H
  have h1 : ∀ t, (ℓ ↦[S t]{fullShare} f : sProp 𝕄) ⊢ iprop(∃ f : Buf (Elt F) ℓ, ℓ ↦[S t]{fullShare} f) := fun t => by
    iintro H; iexists f; iexact H
  have hm : (bigSep Finset.univ fun t => ℓ ↦[S t]{fullShare} f : sProp 𝕄) ⊢ bigSep Finset.univ fun t => iprop(∃ f : Buf (Elt F) ℓ, ℓ ↦[S t]{fullShare} f) :=
    bigSep_mono fun t _ => h1 t
  iapply hm $$ H2

/-- and is made from them. -/
theorem glue {T : Type} [Fintype T] [DecidableEq T] (ℓ : Loc nD τ sig) (S : T → Finset (Idx ℓ)) (f₀ : Buf (Elt F) ℓ) (hd : ∀ t t', t ≠ t' → Disjoint (S t) (S t'))
    (hc : Finset.univ.biUnion S = Finset.univ) :
    (bigSep Finset.univ fun t => iprop(∃ f : Buf (Elt F) ℓ, ℓ ↦[S t]{fullShare} f) : sProp 𝕄) ⊢ iprop(∃ f : Buf (Elt F) ℓ, ℓ ↦{fullShare} f) := by
  haveI : Nonempty (Buf (Elt F) ℓ) := ⟨f₀⟩
  iintro H
  ihave H := (bigSep_exists_pi Finset.univ fun (t : T) (f : Buf (Elt F) ℓ) => (ℓ ↦[S t]{fullShare} f : sProp 𝕄)) $$ H
  icases H with ⟨%fs, H⟩
  ihave H := (pointsTo_biUnion_join Finset.univ S fs f₀ fun t _ t' _ => hd t t') $$ H
  icases H with ⟨%g, -, H⟩
  iexists g
  rw [hc]
  iexact H

/-! ## The rectangles -/

theorem slot_disj (t t' : Fin 2 × Fin 4) (h : t ≠ t') : Disjoint (slotR t.1 t.2).set (slotR t'.1 t'.2).set := by
  by_cases h1 : t.1 = t'.1
  · have h2 : t.2.val ≠ t'.2.val := fun e => h (Prod.ext h1 (Fin.ext e))
    refine Rect.unit_disjoint (1 : Fin 4) ?_
    show t.2.val + 1 ≤ t'.2.val ∨ t'.2.val + 1 ≤ t.2.val
    omega
  · have h2 : t.1.val ≠ t'.1.val := fun e => h1 (Fin.ext e)
    refine Rect.unit_disjoint (0 : Fin 4) ?_
    show t.1.val + 1 ≤ t'.1.val ∨ t'.1.val + 1 ≤ t.1.val
    omega

theorem slot_cover (i : S2x4x512x1024.Idx) : ∃ t : Fin 2 × Fin 4, i ∈ (slotR t.1 t.2).set := by
  refine ⟨(⟨(i 0).val, (i 0).isLt⟩, ⟨(i 1).val, (i 1).isLt⟩), Rect.mem_set_unit.mpr fun a => ?_⟩
  match a with
  | 0 => exact ⟨le_rfl, Nat.lt_succ_self _⟩
  | 1 => exact ⟨le_rfl, Nat.lt_succ_self _⟩
  | 2 => exact ⟨Nat.zero_le _, by have := (i 2).isLt; show (i 2).val < 0 + 512; simpa using this⟩
  | 3 => exact ⟨Nat.zero_le _, by have := (i 3).isLt; show (i 3).val < 0 + 1024; simpa using this⟩

/-- The band of rows that direction `d` writes from sub-block `j`. -/
abbrev outR (d : Fin 2) (j : Fin 4) : Rect S4096x1024 := Rect.unit (s := S4096x1024) ![2048 * d.val + 512 * j.val, 0] S512x1024.size (out_inb d j)

theorem out_disj (t t' : Fin 2 × Fin 4) (h : t ≠ t') : Disjoint (outR t.1 t.2).set (outR t'.1 t'.2).set := by
  refine Rect.unit_disjoint (0 : Fin 2) ?_
  show 2048 * t.1.val + 512 * t.2.val + 512 ≤ 2048 * t'.1.val + 512 * t'.2.val ∨ 2048 * t'.1.val + 512 * t'.2.val + 512 ≤ 2048 * t.1.val + 512 * t.2.val
  have h2 : ¬ (t.1.val = t'.1.val ∧ t.2.val = t'.2.val) := fun e => h (Prod.ext (Fin.ext e.1) (Fin.ext e.2))
  have := t.2.isLt; have := t'.2.isLt
  omega

theorem out_cover (i : S4096x1024.Idx) : ∃ t : Fin 2 × Fin 4, i ∈ (outR t.1 t.2).set := by
  have h0 : (i 0).val < 4096 := (i 0).isLt
  have h1 : (i 1).val < 1024 := (i 1).isLt
  refine ⟨(⟨(i 0).val / 2048, by omega⟩, ⟨(i 0).val % 2048 / 512, by omega⟩), Rect.mem_set_unit.mpr fun a => ?_⟩
  match a with
  | 0 =>
    show 2048 * ((i 0).val / 2048) + 512 * ((i 0).val % 2048 / 512) ≤ (i 0).val ∧ (i 0).val < 2048 * ((i 0).val / 2048) + 512 * ((i 0).val % 2048 / 512) + 512
    omega
  | 1 => exact ⟨Nat.zero_le _, by show (i 1).val < 0 + 1024; omega⟩

/-! ## The slots -/

/-- A view owned at any contents is its elements at any contents. -/
theorem any_eq (c : Dev nD) {sp : Space} {sh : Shape} (v : Memref sig .tc sp sh .f32) :
    (iprop(∃ X, owns (c : Thread nD τ) v fullShare X) : sProp 𝕄) = iprop(∃ f, v.view.loc (c : Thread nD τ) ↦[v.view.set]{fullShare} f) := by
  have h1 : (iprop(∃ X, owns (c : Thread nD τ) v fullShare X) : sProp 𝕄) ⊢ iprop(∃ f, v.view.loc (c : Thread nD τ) ↦[v.view.set]{fullShare} f) := by
    unfold owns
    iintro ⟨%X, ⟨%f, %hf, H⟩⟩
    iexists f; iexact H
  have h2 : (iprop(∃ f, v.view.loc (c : Thread nD τ) ↦[v.view.set]{fullShare} f) : sProp 𝕄) ⊢ iprop(∃ X, owns (c : Thread nD τ) v fullShare X) := by
    iintro ⟨%f, H⟩
    iexists _
    iapply (owns_intro (c : Thread nD τ) v fullShare f) $$ H
  exact BI.Entails.antisymm h1 h2

theorem slot_set (d b : Fin 2) (j : Fin 4) : (slotM d b j).view.set = ((commM d).view.slice (slotR b j)).set := View.set_reshape _ _
theorem slotM_disj (d : Fin 2) (t t' : Fin 2 × Fin 4) (h : t ≠ t') :
    Disjoint ((commM d).view.slice (slotR t.1 t.2)).set ((commM d).view.slice (slotR t'.1 t'.2)).set :=
  View.disjoint_slice (slot_disj t t' h)
theorem slotM_cover : ∀ d : Fin 2, (Finset.biUnion (β := (commM d).view.ty.Idx) Finset.univ fun t : Fin 2 × Fin 4 => ((commM d).view.slice (slotR t.1 t.2)).set) = Finset.univ
  | 0 => Finset.eq_univ_of_forall fun i => by
    obtain ⟨t, ht⟩ := slot_cover i
    exact Finset.mem_biUnion.mpr ⟨t, Finset.mem_univ _, by rw [View.set_slice]; exact Finset.mem_map.mpr ⟨i, ht, rfl⟩⟩
  | 1 => Finset.eq_univ_of_forall fun i => by
    obtain ⟨t, ht⟩ := slot_cover i
    exact Finset.mem_biUnion.mpr ⟨t, Finset.mem_univ _, by rw [View.set_slice]; exact Finset.mem_map.mpr ⟨i, ht, rfl⟩⟩

def slotP (c : Dev nD) (d : Fin 2) (t : Fin 2 × Fin 4) : sProp 𝕄 :=
  iprop(∃ f : Buf (Elt F) ((commM d).view.loc (c : Thread nD τ)), (commM d).view.loc (c : Thread nD τ) ↦[((commM d).view.slice (slotR t.1 t.2)).set]{fullShare} f)
theorem slotAny_eq (c : Dev nD) (d b : Fin 2) (j : Fin 4) : slotAny (F := F) c d b j = slotP c d (b, j) := by
  unfold slotAny slotAt slotP
  rw [any_eq, slot_set]
  rfl
/-- The slots of a direction, whole at some contents. -/
def commP (c : Dev nD) (d : Fin 2) : sProp 𝕄 :=
  iprop(∃ f : Buf (Elt F) ((commM d).view.loc (c : Thread nD τ)), (commM d).view.loc (c : Thread nD τ) ↦{fullShare} f)

/-- What a function of the sub-blocks gives for all eight. -/
theorem all8_eq (Φ : Fin 2 → Fin 4 → sProp 𝕄) : (bigSep Finset.univ fun t : Fin 2 × Fin 4 => Φ t.1 t.2) = all8 Φ :=
  bigSep_univ_eq_bigSepL [(0, 0), (0, 1), (0, 2), (0, 3), (1, 0), (1, 1), (1, 2), (1, 3)] (by decide) (by decide) _

/-- Both directions' slots, whole, are the sixteen slots, -/
theorem slots_cut (c : Dev nD) (d : Fin 2) : commP (F := F) c d ⊢ all8 fun b j => slotAny (F := F) c d b j := by
  rw [← all8_eq, bigSep_congr fun t _ => slotAny_eq (F := F) c d t.1 t.2]
  exact cut _ _ (slotM_disj d) (slotM_cover d)
/-- and are made from them. -/
theorem slots_glue (c : Dev nD) (d : Fin 2) [∀ e, Nonempty (Elt F e)] : (all8 fun b j => slotAny (F := F) c d b j) ⊢ commP (F := F) c d := by
  rw [← all8_eq, bigSep_congr fun t _ => slotAny_eq (F := F) c d t.1 t.2]
  exact glue _ _ (fun _ => Classical.arbitrary _) (slotM_disj d) (slotM_cover d)

theorem commP_0 (c : Dev nD) : commP (F := F) c 0 = iprop(∃ f : Buf (Elt F) ((c : Thread nD τ).loc cc0_scratch0), ((c : Thread nD τ).loc cc0_scratch0) ↦{fullShare} f) := rfl
theorem commP_1 (c : Dev nD) : commP (F := F) c 1 = iprop(∃ f : Buf (Elt F) ((c : Thread nD τ).loc cc0_scratch1), ((c : Thread nD τ).loc cc0_scratch1) ↦{fullShare} f) := rfl

/-! ## The stages and the result -/

theorem stg_0 (c : Dev nD) : stgAny (F := F) c 0 = iprop(∃ f : Buf (Elt F) ((c : Thread nD τ).loc cc0_scratch2), ((c : Thread nD τ).loc cc0_scratch2) ↦{fullShare} f) := by
  unfold stgAny stgAt
  exact congrArg _ (funext fun X => owns_whole (c : Thread nD τ) cc0_scratch2 fullShare X)
theorem stg_1 (c : Dev nD) : stgAny (F := F) c 1 = iprop(∃ f : Buf (Elt F) ((c : Thread nD τ).loc cc0_scratch3), ((c : Thread nD τ).loc cc0_scratch3) ↦{fullShare} f) := by
  unfold stgAny stgAt
  exact congrArg _ (funext fun X => owns_whole (c : Thread nD τ) cc0_scratch3 fullShare X)

theorem outAny_eq (c : Dev nD) (d : Fin 2) (j : Fin 4) : outAny (F := F) c d j
    = iprop(∃ f : Buf (Elt F) ((c : Thread nD τ).loc main_v1), ((c : Thread nD τ).loc main_v1) ↦[((Memref.whole main_v1).view.slice (outR d j)).set]{fullShare} f) := by
  unfold outAny outAt
  rw [any_eq]
  rfl
theorem outs_cut (c : Dev nD) : (iprop(∃ f : Buf (Elt F) ((c : Thread nD τ).loc main_v1), ((c : Thread nD τ).loc main_v1) ↦{fullShare} f) : sProp 𝕄)
    ⊢ all8 fun d j => outAny (F := F) c d j := by
  rw [← all8_eq, bigSep_congr fun t _ => outAny_eq (F := F) c t.1 t.2]
  refine cut _ _ (fun t t' h => View.disjoint_slice (out_disj t t' h)) (Finset.eq_univ_of_forall fun i => ?_)
  obtain ⟨t, ht⟩ := out_cover i
  exact Finset.mem_biUnion.mpr ⟨t, Finset.mem_univ _, by rw [View.set_slice]; exact Finset.mem_map.mpr ⟨i, ht, rfl⟩⟩

/-! ## The argument -/

/-- What is left of the argument when the copies have their shares. -/
def xRest (c : Dev nD) : sProp 𝕄 := xAt m c (shareDrop fullShare 14)
theorem x_deal (c : Dev nD) : ((c : Thread nD τ).loc main_arg0 ↦{fullShare} xOf m c : sProp 𝕄)
    ⊢ iprop(xRest m c ∗ (xTok m c 0 ∗ xTok m c 1 ∗ xTok m c 2 ∗ xTok m c 3 ∗ xTok m c 4 ∗ xTok m c 5 ∗ xTok m c 6 ∗ xTok m c 7 ∗ xTok m c 8 ∗ xTok m c 9 ∗ xTok m c 10 ∗ xTok m c 11 ∗ xTok m c 12 ∗ xTok m c 13)) := by
  refine (pointsTo_toks_split fullShare 14).trans (Entails.of_eq ?_)
  rw [show (bigSep Finset.univ fun i : Fin 14 => ((c : Thread nD τ).loc main_arg0 ↦{shareTok fullShare 14 i} xOf m c : sProp 𝕄))
    = bigSep Finset.univ fun i : Fin 14 => xTok m c i from rfl,
    bigSep_univ_eq_bigSepL [0, 1, 2, 3, 4, 5, 6, 7, 8, 9, 10, 11, 12, 13] (by decide) (by decide) (fun i : Fin 14 => xTok m c i)]
  rfl

/-! ## What the memory holds -/

/-- A view owned holds in memory what it is owned at. -/
theorem owns_mem (c : Dev nD) {sp : Space} {sh : Shape} (v : Memref sig .tc sp sh .f32) (X : sh.Idx → Elt F .f32) (s' : Phys nD τ sig (Elt F)) :
    iprop(owns (c : Thread nD τ) v fullShare X ∗ SI s') ⊢ (iprop(⌜v.view.read (Elt F) (s'.mem.mem (v.view.loc (c : Thread nD τ))) = X⌝ ∗ SI s') : sProp 𝕄) := by
  unfold owns
  iintro ⟨⟨%f, %hf, H⟩, HS⟩
  icombine HS H gives %h
  isplitr
  · ipureintro
    rw [← hf]
    funext i
    rw [View.read_apply, View.read_apply]
    exact congrArg _ (h _ (Finset.mem_map_of_mem _ (Finset.mem_univ i)))
  · iexact HS

end Cert.KernelIdeal.Pf
-- ==== Proof.KernelIdealGhost.lean ====
/-
# The launch's ghost state

At the launch every ring cell gets its invariant, its owner's position and its duty tokens; a token goes to the device that pays the duty:
an arrival's to the device upstream, a given slot's to the device downstream, the barrier's to the two neighbours, a send's to the owner
itself. A device's launch credit is what its neighbours owe its cells.
-/
module

public import proofs.«01_k».proof.Proof.KernelIdealBufs

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## The index sets -/

abbrev DJ : Type := Fin 2 × Fin 4

theorem bigSep_slots (Ψ : Fin 2 × Fin 2 × Fin 4 → sProp 𝕄) :
    bigSep Finset.univ Ψ = bigSep Finset.univ fun t : DJ => iprop(Ψ (t.1, 0, t.2) ∗ Ψ (t.1, 1, t.2)) := by
  rw [bigSep_univ_prod, bigSep_univ_prod]
  refine bigSep_congr fun d _ => ?_
  rw [bigSep_univ_prod, bigSep_univ_eq_bigSepL [0, 1] (by decide) (by decide), bigSepL_cons_cons, bigSepL_singleton, bigSep_sep']
  rfl

theorem three (A B C : DJ → sProp 𝕄) : (bigSep Finset.univ fun t : DJ => iprop(A t ∗ B t ∗ C t))
    = iprop((bigSep Finset.univ A) ∗ (bigSep Finset.univ B) ∗ (bigSep Finset.univ C)) := by
  rw [bigSep_sep', bigSep_sep']

/-- What a device has of each of its ring cells, sub-block by sub-block. -/
theorem bigSep_KI (Φ : KI → sProp 𝕄) : bigSep Finset.univ Φ
    = iprop((bigSep Finset.univ fun t : DJ => iprop((Φ (iS t.1 0 t.2) ∗ Φ (iS t.1 1 t.2)) ∗ (Φ (iR t.1 0 t.2) ∗ Φ (iR t.1 1 t.2)) ∗ Φ (iF t.1 t.2))) ∗ Φ iB) := by
  rw [bigSep_univ_sum, bigSep_univ_sum, bigSep_univ_sum, bigSep_slots, bigSep_slots, bigSep_univ_of_subsingleton ()]
  have h1 : ∀ A B C D : sProp 𝕄, iprop(A ∗ B ∗ C ∗ D) ⊢ iprop((A ∗ B ∗ C) ∗ D) := fun A B C D => by
    iintro ⟨HA, HB, HC, HD⟩
    isplitr [HD]
    · isplitl [HA]; · iexact HA
      isplitl [HB] <;> iassumption
    · iexact HD
  have h2 : ∀ A B C D : sProp 𝕄, iprop((A ∗ B ∗ C) ∗ D) ⊢ iprop(A ∗ B ∗ C ∗ D) := fun A B C D => by
    iintro ⟨⟨HA, HB, HC⟩, HD⟩
    isplitl [HA]; · iexact HA
    isplitl [HB]; · iexact HB
    isplitl [HC] <;> iassumption
  exact (BI.Entails.antisymm (h1 _ _ _ _) (h2 _ _ _ _)).trans (congrArg (fun P => iprop(P ∗ Φ iB)) (three _ _ _).symm)

/-! ## What a sub-block starts with -/

/-- The owner's positions. -/
def lanePos (c : Dev nD) (d : Fin 2) (j : Fin 4) : sProp 𝕄 :=
  iprop((pos (F := F) (sndC c d 0 j) 0 ∗ pos (F := F) (sndC c d 1 j) 0) ∗ (pos (F := F) (rcvC c d 0 j) 0 ∗ pos (F := F) (rcvC c d 1 j) 0) ∗ pos (F := F) (freC c d j) 0)
/-- The tokens of the sub-block's duties, with the cells of the devices `r` and `f`. -/
def laneTok (c r f : Dev nD) (d : Fin 2) (j : Fin 4) : sProp 𝕄 :=
  iprop(tk (F := F) (sndC c d 0 j) 0 ∗ tk (F := F) (sndC c d 0 j) 1 ∗ tk (F := F) (sndC c d 1 j) 0
    ∗ tk (F := F) (rcvC r d 0 j) 0 ∗ tk (F := F) (rcvC r d 1 j) 0 ∗ tk (F := F) (rcvC r d 1 j) 1 ∗ tk (F := F) (freC f d j) 0 ∗ tk (F := F) (freC f d j) 1)
/-- The credit. -/
def laneCr (c : Dev nD) (d : Fin 2) (j : Fin 4) : sProp 𝕄 :=
  iprop(cr (F := F) (rcvC c d 0 j) 0 N ∗ cr (F := F) (rcvC c d 1 j) 0 N ∗ cr (F := F) (rcvC c d 1 j) 1 N ∗ cr (F := F) (freC c d j) 0 1 ∗ cr (F := F) (freC c d j) 1 1)

theorem lane_intro (c : Dev nD) (d : Fin 2) (j : Fin 4) :
    iprop((lanePos (F := F) c d j ∗ laneTok (F := F) c (down d c) (up d c) d j) ∗ laneCr (F := F) c d j) ⊢ lane0 (F := F) c d j := by
  unfold lanePos laneTok laneCr lane0
  iintro ⟨⟨⟨⟨P1, P2⟩, ⟨P3, P4⟩, P5⟩, T1, T2, T3, T4, T5, T6, T7, T8⟩, C1, C2, C3, C4, C5⟩
  isplitl [P1]; · iexact P1
  isplitl [P2]; · iexact P2
  isplitl [P3]; · iexact P3
  isplitl [P4]; · iexact P4
  isplitl [P5]; · iexact P5
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [C1]; · iexact C1
  isplitl [C2]; · iexact C2
  isplitl [C3]; · iexact C3
  isplitl [C4]; · iexact C4
  iexact C5

/-- The barrier's tokens that a device spends. -/
def barTok (r f : Dev nD) : sProp 𝕄 := iprop(dutyTok ER (barC r) 0 true ∗ dutyTok ER (barC f) 0 false)

/-! ## The cells and tokens of the launch -/

def ringCells : Finset (GSem nD τ sig) := Finset.univ.map ⟨kcell, kcell_inj⟩

abbrev TI : Type := (DJ × Fin 8) ⊕ Bool
def tokT : TI → KI × ℕ × Bool
  | .inl ((d, j), k) => match k with
    | 0 => (iS d 0 j, 0, false) | 1 => (iS d 0 j, 1, false) | 2 => (iS d 1 j, 0, false) | 3 => (iR d 0 j, 0, false)
    | 4 => (iR d 1 j, 0, false) | 5 => (iR d 1 j, 1, false) | 6 => (iF d j, 0, false) | 7 => (iF d j, 1, false)
  | .inr b => (iB, 0, b)
set_option synthInstance.maxSize 4000 in
set_option synthInstance.maxHeartbeats 200000 in
theorem tokT_inj : Function.Injective tokT := by
  have h : ∀ a b : TI, tokT a = tokT b → a = b := by decide +kernel
  exact fun a b => h a b
def tokOf (x : Dev nD × TI) : GSem nD τ sig × ℕ × Bool := (kcell (x.1, (tokT x.2).1), (tokT x.2).2)
theorem tokOf_inj : Function.Injective tokOf := by
  rintro ⟨c, i⟩ ⟨c', i'⟩ h
  have h1 : (c, (tokT i).1) = (c', (tokT i').1) := kcell_inj (congrArg Prod.fst h)
  have h2 : (tokT i).2 = (tokT i').2 := congrArg (fun z : GSem nD τ sig × ℕ × Bool => z.2) h
  have hc : c = c' := congrArg Prod.fst h1
  have hi : i = i' := tokT_inj (Prod.ext (congrArg Prod.snd h1) h2)
  rw [hc, hi]
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

/-- All tokens of a device's own cells. -/
def toks (c : Dev nD) : sProp 𝕄 :=
  iprop((bigSep Finset.univ fun t : DJ => laneTok (F := F) c c c t.1 t.2) ∗ barTok (F := F) c c)
/-- All tokens a device spends. -/
def payToks (c : Dev nD) : sProp 𝕄 :=
  iprop((bigSep Finset.univ fun t : DJ => laneTok (F := F) c (down t.1 c) (up t.1 c) t.1 t.2) ∗ barTok (F := F) (up 0 c) (up 1 c))

theorem toks_eq (c : Dev nD) : (bigSep Finset.univ fun i : TI => (dutyTok ER (tokOf (c, i)).1 (tokOf (c, i)).2.1 (tokOf (c, i)).2.2 : sProp 𝕄)) = toks (F := F) c := by
  rw [bigSep_univ_sum, bigSep_univ_prod, bigSep_univ_eq_bigSepL [true, false] (by decide) (by decide), bigSepL_cons_cons, bigSepL_singleton]
  unfold toks
  refine congrArg₂ _ (bigSep_congr fun t _ => ?_) rfl
  rw [bigSep_univ_eq_bigSepL [0, 1, 2, 3, 4, 5, 6, 7] (by decide) (by decide)]
  rfl

/-- What the launch element deals a device. -/
def G (c : Dev nD) : sProp 𝕄 :=
  iprop((bigSep Finset.univ fun k : KI => roundState ER (Rd m) (kcell (c, k)) 0)
    ∗ (bigSep Finset.univ fun k : KI => atPos ER (kcell (c, k)) 0 ∅ 0) ∗ (bigSep Finset.univ fun k : KI => reached ER (kcell (c, k)) 0) ∗ toks (F := F) c)

theorem fund_ring : BI.own ((ER (F := F)) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores -/

/-- The kernel's own semaphores: the local copies' and the ring's but the barrier's, which outlives the kernel. -/
abbrev KO : Type := Fin 18 ⊕ (Fin 2 × Fin 2 × Fin 4) ⊕ (Fin 2 × Fin 2 × Fin 4) ⊕ (Fin 2 × Fin 4)
def osem : KO → SemLoc sig
  | .inl n => .dma (locS n)
  | .inr (.inl (d, b, j)) => .dma (sendS d b j)
  | .inr (.inr (.inl (d, b, j))) => .dma (recvS d b j)
  | .inr (.inr (.inr (d, j))) => .reg (freeS d j)
set_option synthInstance.maxSize 4000 in
set_option synthInstance.maxHeartbeats 200000 in
theorem ownSemFacts : Pipeline.OwnSemFacts cfg0.spec osem := by decide +kernel

/-- The local semaphores at zero. -/
def locs (c : Dev nD) : sProp 𝕄 := bigSep Finset.univ fun n : Fin 18 => locV (F := F) c n
theorem locs_eq (c : Dev nD) : locs (F := F) c = iprop(locV (F := F) c 0 ∗ locV (F := F) c 1 ∗ locV (F := F) c 2 ∗ locV (F := F) c 3 ∗ locV (F := F) c 4 ∗ locV (F := F) c 5 ∗ locV (F := F) c 6 ∗ locV (F := F) c 7 ∗ locV (F := F) c 8 ∗ locV (F := F) c 9 ∗ locV (F := F) c 10 ∗ locV (F := F) c 11 ∗ locV (F := F) c 12 ∗ locV (F := F) c 13 ∗ locV (F := F) c 14 ∗ locV (F := F) c 15 ∗ locV (F := F) c 16 ∗ locV (F := F) c 17) := by
  unfold locs
  exact bigSep_univ_eq_bigSepL [0, 1, 2, 3, 4, 5, 6, 7, 8, 9, 10, 11, 12, 13, 14, 15, 16, 17] (by decide) (by decide) _

def laneV (c : Dev nD) (d : Fin 2) (j : Fin 4) : sProp 𝕄 :=
  iprop((semVal (sndC c d 0 j) 0 ∗ semVal (sndC c d 1 j) 0) ∗ (semVal (rcvC c d 0 j) 0 ∗ semVal (rcvC c d 1 j) 0) ∗ semVal (freC c d j) 0)

theorem ownSems0_eq (c : Dev nD) : (Pipeline.ownSems0 (Ix := ℕ) (Name := ℕ) (U := UU) (Lvl := ℕ) (Val := Elt F) (τ := τ) osem c : sProp 𝕄)
    = iprop(locs (F := F) c ∗ bigSep Finset.univ fun t : DJ => laneV (F := F) c t.1 t.2) := by
  unfold Pipeline.ownSems0 laneV
  rw [bigSep_univ_sum, bigSep_univ_sum, bigSep_univ_sum, bigSep_slots, bigSep_slots, three]
  rfl
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) : (bigSep Finset.univ fun k : KI => (semVal (kcell (c, k)) 0 : sProp 𝕄))
    = iprop((bigSep Finset.univ fun t : DJ => laneV (F := F) c t.1 t.2) ∗ semVal (barC c) 0) := bigSep_KI _

/-! ## The invariants, and the tokens dealt round the ring -/

def mid (c : Dev nD) : sProp 𝕄 :=
  iprop(locs (F := F) c ∗ (bigSep Finset.univ fun k : KI => iprop(∃ κ : ℕ, cellInv ER (Rd m) κ (kcell (c, k))))
    ∗ (bigSep Finset.univ fun k : KI => atPos ER (kcell (c, k)) 0 ∅ 0) ∗ (bigSep Finset.univ fun k : KI => reached ER (kcell (c, k)) 0) ∗ toks (F := F) c)

theorem core_alloc (c : Dev nD) :
    iprop(Pipeline.ownSems0 (Ix := ℕ) (Name := ℕ) (U := UU) (Lvl := ℕ) (Val := Elt F) (τ := τ) osem c ∗ unscopedSems0 c ∗ G m c) ⊢ |={Set.univ}=> mid m c := by
  unfold G mid
  rw [ownSems0_eq, unscopedSems0_eq]
  iintro ⟨⟨Hloc, Hos⟩, Hus, Hst, Hat, Hr, Htok⟩
  ihave Hv := (Entails.of_eq (sems0_eq (F := F) c).symm) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k : KI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hloc]; · iexact Hloc
  isplitl [Hinv]; · iexact Hinv
  isplitl [Hat]; · iexact Hat
  isplitl [Hr] <;> iassumption

/-- A device's own part of what the launch gives. -/
def linear (c : Dev nD) : sProp 𝕄 :=
  iprop(locs (F := F) c ∗ (bigSep Finset.univ fun k : KI => atPos ER (kcell (c, k)) 0 ∅ 0) ∗ payToks (F := F) c)
/-- All of it. -/
def G' (c : Dev nD) : sProp 𝕄 := iprop(∃ K : Dev nD × KI → ℕ, recs m K ∗ linear (F := F) c)

def turn (d : Fin 2) : Dev nD ≃ Dev nD := ⟨down d, up d, up_down d, down_up d⟩

theorem lanes_around (d : Fin 2) (j : Fin 4) : (bigSep Finset.univ fun c : Dev nD => laneTok (F := F) c c c d j)
    ⊢ bigSep Finset.univ fun c : Dev nD => laneTok (F := F) c (down d c) (up d c) d j := by
  unfold laneTok
  simp only [bigSep_sep']
  rw [bigSep_univ_equiv (turn d) (fun c : Dev nD => tk (F := F) (rcvC c d 0 j) 0), bigSep_univ_equiv (turn d) (fun c : Dev nD => tk (F := F) (rcvC c d 1 j) 0),
    bigSep_univ_equiv (turn d) (fun c : Dev nD => tk (F := F) (rcvC c d 1 j) 1), bigSep_univ_equiv (turn d).symm (fun c : Dev nD => tk (F := F) (freC c d j) 0),
    bigSep_univ_equiv (turn d).symm (fun c : Dev nD => tk (F := F) (freC c d j) 1)]
  exact BI.Entails.refl _

theorem bars_around : (bigSep Finset.univ fun c : Dev nD => barTok (F := F) c c) ⊢ bigSep Finset.univ fun c : Dev nD => barTok (F := F) (up 0 c) (up 1 c) := by
  unfold barTok
  simp only [bigSep_sep']
  rw [bigSep_univ_equiv (turn 0).symm (fun c : Dev nD => (dutyTok ER (barC c) 0 true : sProp 𝕄)), bigSep_univ_equiv (turn 1).symm (fun c : Dev nD => (dutyTok ER (barC c) 0 false : sProp 𝕄))]
  exact BI.Entails.refl _

theorem swap_sums (Φ : Dev nD → DJ → sProp 𝕄) : (bigSep Finset.univ fun c : Dev nD => bigSep Finset.univ fun t : DJ => Φ c t)
    = bigSep Finset.univ fun t : DJ => bigSep Finset.univ fun c : Dev nD => Φ c t := by
  rw [← bigSep_univ_prod (fun x : Dev nD × DJ => Φ x.1 x.2), ← bigSep_univ_prod (fun x : DJ × Dev nD => Φ x.2 x.1)]
  exact bigSep_univ_equiv (Equiv.prodComm DJ (Dev nD)) (fun x : Dev nD × DJ => Φ x.1 x.2)

theorem toks_around : (bigSep Finset.univ fun c : Dev nD => toks (F := F) c) ⊢ bigSep Finset.univ fun c : Dev nD => payToks (F := F) c := by
  unfold toks payToks
  rw [bigSep_sep', bigSep_sep', swap_sums (fun (c : Dev nD) (t : DJ) => laneTok (F := F) c c c t.1 t.2),
    swap_sums (fun (c : Dev nD) (t : DJ) => laneTok (F := F) c (down t.1 c) (up t.1 c) t.1 t.2)]
  exact BIClass.sep_mono (bigSep_mono fun t _ => lanes_around t.1 t.2) bars_around

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × KI → ℕ) (c : Dev nD) : iprop(recs m K ∗ linear (F := F) c) ⊢ G' m c := by
  unfold G'
  iintro ⟨HR, HL⟩
  iexists K
  isplitl [HR] <;> iassumption

theorem regroup : (bigSep Finset.univ (mid m)) ⊢ bigSep Finset.univ (G' m) := by
  classical
  unfold mid
  simp only [bigSep_sep']
  rw [← bigSep_univ_prod (fun ck : Dev nD × KI => (iprop(∃ κ : ℕ, cellInv ER (Rd m) κ (kcell ck)) : sProp 𝕄)),
    ← bigSep_univ_prod (fun ck : Dev nD × KI => (reached ER (kcell ck) 0 : sProp 𝕄))]
  iintro ⟨Hloc, HI, Hat, #HR, Htok⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_around (F := F)) $$ Htok
  iapply (bigSep_with_persistent (R := recs m K) fun c _ => ghost_intro m K c)
  isplitr
  · unfold recs
    rw [bigSep_sep']
    isplitl; · iexact HI
    iexact HR
  · unfold linear
    simp only [bigSep_sep']
    isplitl [Hloc]; · iexact Hloc
    isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Whom a payment goes to, and whence one comes. -/
def dueTo (c : Dev nD) : Due → Dev nD
  | .bar d => up d c
  | .snd _ d _ => down d c
  | .fre _ d _ => up d c
def dueFrom (c : Dev nD) : Due → Dev nD
  | .bar d => down d c
  | .snd _ d _ => up d c
  | .fre _ d _ => down d c
def dueSm : Due → SemLoc sig
  | .bar _ => .reg barS
  | .snd h d j => .dma (recvS d (hs h) j)
  | .fre _ d j => .reg (freeS d j)
theorem dueC_eq (c : Dev nD) (x : Due) : dueC c x = ((dueTo c x : Thread nD τ), dueSm x) := by cases x <;> rfl
theorem to_from (c : Dev nD) (x : Due) : dueTo (dueFrom c x) x = c := by
  match x with
  | .bar d => exact up_down d c
  | .snd _ d _ => exact down_up d c
  | .fre _ d _ => exact up_down d c
theorem from_to (c : Dev nD) (x : Due) : dueFrom (dueTo c x) x = c := by
  match x with
  | .bar d => exact down_up d c
  | .snd _ d _ => exact up_down d c
  | .fre _ d _ => exact down_up d c

/-- The credit for a list of payments, on a device's own cells. -/
def credL (c : Dev nD) : List Due → sProp 𝕄
  | [] => iprop(emp)
  | x :: l => iprop(cr (F := F) ((c : Thread nD τ), dueSm x) (dueIx x) (dueN x) ∗ credL c l)

theorem creds (l : List Due) (c : Dev nD) : (Pipeline.launchCred (fun d => owed d l) c : sProp 𝕄) ⊢ credL (F := F) c l := by
  induction l with
  | nil => unfold credL; iintro -; iempintro
  | cons x l ih =>
    have h : (fun d => owed d (x :: l)) = fun d => owed d l + tallyAt (((dueTo d x : Dev nD) : Thread nD τ), dueSm x) (dueIx x) (dueN x) :=
      funext fun d => by rw [← dueC_eq]; rfl
    rw [h, Pipeline.launchCred_add]
    unfold credL
    iintro ⟨H1, H2⟩
    isplitl [H2]
    · iapply (Pipeline.launchCred_tallyAt (dueSm x) (fun d => dueTo d x) (fun d => dueFrom d x) (fun d => to_from d x) (fun d => from_to d x) (dueIx x) (dueN x) c) $$ H2
    · iapply ih $$ H1

/-- A device's credit at the launch. -/
def startCr (c : Dev nD) : sProp 𝕄 := iprop(cr (F := F) (barC c) 0 2 ∗ all8 (fun d j => laneCr (F := F) c d j))

set_option maxHeartbeats 2000000 in
theorem creds_dues (c : Dev nD) : credL (F := F) c dues ⊢ startCr (F := F) c := by
  have h2 : iprop(cr (F := F) (barC c) 0 1 ∗ cr (F := F) (barC c) 0 1) ⊢ cr (F := F) (barC c) 0 2 := by
    refine (cred_add _ _).2.trans (Entails.of_eq ?_)
    rw [tallyAt_add]
  unfold startCr laneCr
  simp only [credL]
  iintro ⟨B0, B1, S000, S010, S001, S011, S002, S012, S003, S013, F000, S100, F010, S110, F001, S101, F011, S111, F002, S102, F012, S112, F003, S103, F013, S113, F100, S200, F110, S210, F101, S201, F111, S211, F102, S202, F112, S212, F103, S203, F113, S213, -⟩
  isplitl [B0 B1]
  · iapply h2
    isplitl [B0]; · iexact B0
    iexact B1
  isplitl [S100 S000 S200 F000 F100]
  · isplitl [S100]; · iexact S100
    isplitl [S000]; · iexact S000
    isplitl [S200]; · iexact S200
    isplitl [F000]; · iexact F000
    iexact F100
  isplitl [S101 S001 S201 F001 F101]
  · isplitl [S101]; · iexact S101
    isplitl [S001]; · iexact S001
    isplitl [S201]; · iexact S201
    isplitl [F001]; · iexact F001
    iexact F101
  isplitl [S102 S002 S202 F002 F102]
  · isplitl [S102]; · iexact S102
    isplitl [S002]; · iexact S002
    isplitl [S202]; · iexact S202
    isplitl [F002]; · iexact F002
    iexact F102
  isplitl [S103 S003 S203 F003 F103]
  · isplitl [S103]; · iexact S103
    isplitl [S003]; · iexact S003
    isplitl [S203]; · iexact S203
    isplitl [F003]; · iexact F003
    iexact F103
  isplitl [S110 S010 S210 F010 F110]
  · isplitl [S110]; · iexact S110
    isplitl [S010]; · iexact S010
    isplitl [S210]; · iexact S210
    isplitl [F010]; · iexact F010
    iexact F110
  isplitl [S111 S011 S211 F011 F111]
  · isplitl [S111]; · iexact S111
    isplitl [S011]; · iexact S011
    isplitl [S211]; · iexact S211
    isplitl [F011]; · iexact F011
    iexact F111
  isplitl [S112 S012 S212 F012 F112]
  · isplitl [S112]; · iexact S112
    isplitl [S012]; · iexact S012
    isplitl [S212]; · iexact S212
    isplitl [F012]; · iexact F012
    iexact F112
  isplitl [S113]; · iexact S113
  isplitl [S013]; · iexact S013
  isplitl [S213]; · iexact S213
  isplitl [F013]; · iexact F013
  iexact F113

end Cert.KernelIdeal.Pf
-- ==== Proof.KernelIdealRun.lean ====
/-
# The run

One device's part starts from what the launch gives and ends with its columns of the sum in its result, its argument untouched and every
semaphore at zero; the launch theorem makes the run of the four devices of it.
-/
module

public import proofs.«01_k».proof.Proof.KernelIdealGhost
public import Idealize.ShloMosaic.Lib.Pipeline.CollectiveSegs

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligationLoose)

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts with -/

/-- The slots, grouped by direction or by slot. -/
theorem slots_turn (Ψ : Fin 2 → Fin 2 → Fin 4 → sProp 𝕄) :
    iprop(all8 (Ψ 0) ∗ all8 (Ψ 1)) ⊢ iprop(all8 (fun d j => Ψ d 0 j) ∗ all8 (fun d j => Ψ d 1 j)) := by
  unfold all8
  iintro ⟨⟨A0, A1, A2, A3, A4, A5, A6, A7⟩, B0, B1, B2, B3, B4, B5, B6, B7⟩
  isplitl [A0 A1 A2 A3 B0 B1 B2 B3]
  · isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  · isplitl [A4]; · iexact A4
    isplitl [A5]; · iexact A5
    isplitl [A6]; · iexact A6
    isplitl [A7]; · iexact A7
    isplitl [B4]; · iexact B4
    isplitl [B5]; · iexact B5
    isplitl [B6]; · iexact B6
    iexact B7

theorem pos_split (c : Dev nD) : (bigSep Finset.univ fun k : KI => (atPos ER (kcell (c, k)) 0 ∅ 0 : sProp 𝕄))
    = iprop((bigSep Finset.univ fun t : DJ => lanePos (F := F) c t.1 t.2) ∗ pos (F := F) (barC c) 0) := bigSep_KI _

theorem lanes_start (c : Dev nD) :
    iprop(((bigSep Finset.univ fun t : DJ => lanePos (F := F) c t.1 t.2) ∗ (bigSep Finset.univ fun t : DJ => laneTok (F := F) c (down t.1 c) (up t.1 c) t.1 t.2))
      ∗ all8 (fun d j => laneCr (F := F) c d j)) ⊢ all8 (fun d j => lane0 (F := F) c d j) := by
  rw [← all8_eq, ← all8_eq, ← bigSep_sep', ← bigSep_sep']
  exact bigSep_mono fun t _ => lane_intro c t.1 t.2

/-- What the launch gives a device, its scratch apart. -/
def start (c : Dev nD) : sProp 𝕄 :=
  iprop(G' m c ∗ startCr (F := F) c ∗ levAts L lv ∗ ((c : Thread nD τ).loc main_arg0 ↦{fullShare} xOf m c)
    ∗ ∃ f : Buf (Elt F) ((c : Thread nD τ).loc main_v1), (c : Thread nD τ).loc main_v1 ↦{fullShare} f)

def Φ₀ (c : Dev nD) : sProp 𝕄 :=
  iprop(start m c ∗ commP (F := F) c 0 ∗ commP (F := F) c 1 ∗ stgAny (F := F) c 0 ∗ stgAny (F := F) c 1)
/-- What is left when the kernel has run. -/
def Φ₁ (c : Dev nD) : sProp 𝕄 := iprop(bodyPost m c ∗ xRest m c)

theorem start_body (c : Dev nD) : Φ₀ m c ⊢ iprop(∃ K : Dev nD × KI → ℕ, (recs m K ∗ levAts L lv) ∗ bodyPre m c ∗ xRest m c) := by
  unfold Φ₀ start G' linear payToks barTok startCr
  iintro ⟨⟨⟨%K, #HR, Hloc, Hpos, Htok, Hb1, Hb2⟩, ⟨Hcb, Hcl⟩, #HL, Hx, Ho⟩, Hc0, Hc1, Hg0, Hg1⟩
  iexists K
  isplitr
  · isplitl; · iexact HR
    iexact HL
  ihave Hpos := (Entails.of_eq (pos_split (F := F) c)) $$ Hpos
  icases Hpos with ⟨Hlp, Hpb⟩
  ihave Hl := (lanes_start (F := F) c) $$ [Hlp Htok Hcl]
  · isplitr [Hcl]
    · isplitl [Hlp] <;> iassumption
    · iexact Hcl
  ihave Hx := (x_deal m c) $$ Hx
  icases Hx with ⟨Hxr, Hx⟩
  ihave Ho := (outs_cut c) $$ Ho
  ihave Hc0 := (slots_cut c 0) $$ Hc0
  ihave Hc1 := (slots_cut c 1) $$ Hc1
  ihave Hs := (slots_turn (F := F) fun d b j => slotAny (F := F) c d b j) $$ [Hc0 Hc1]
  · isplitl [Hc0]; · iexact Hc0
    iexact Hc1
  icases Hs with ⟨Hs0, Hs1⟩
  ihave Hloc := (Entails.of_eq (locs_eq (F := F) c)) $$ Hloc
  isplitr [Hxr]
  · unfold bodyPre
    isplitl [Hb1 Hb2 Hcb Hpb]
    · isplitl [Hb1]; · iexact Hb1
      isplitl [Hb2]; · iexact Hb2
      isplitl [Hcb]; · iexact Hcb
      iexact Hpb
    isplitl [Hl]; · iexact Hl
    isplitl [Hs0]; · iexact Hs0
    isplitl [Hs1]; · iexact Hs1
    isplitl [Hg0 Hg1]
    · isplitl [Hg0] <;> iassumption
    isplitl [Ho]; · iexact Ho
    isplitl [Hx]; · iexact Hx
    iexact Hloc
  · iexact Hxr

/-! ## The proof data -/

def dats (_ : Fin 1) (c : Dev nD) : Dat τ (Elt F) ℕ ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => owed c dues
    | ⟨_ + 1, _⟩ => 0

theorem no_windows (Φ : Fin cfg0.W → sProp 𝕄) : bigSep Finset.univ Φ = iprop(emp) := by
  rw [show (Finset.univ : Finset (Fin cfg0.W)) = ∅ from rfl, bigSep_empty]
  rfl

set_option maxRecDepth 8000 in
theorem body_obligation (c : Dev nD) : BodyObligationLoose (dats (F := F) m 0 c) defs₀ defs𝒱 0 Set.univ := fun t => by
  rw [fin_N0 t]
  simp only [no_windows]
  rw [show defs₀ (F := F) Proc.tc cfg0.body (cfg0.bodyArgs t0_0 (cfg0.slots t0_0)) = bodyAt0 (F := F) t0_0 from rfl, body_eq, wp_deviceId,
    show (dats (F := F) m 0 c).Φ t0_0.castSucc = Φ₀ m c from rfl, show (dats (F := F) m 0 c).Φ t0_0.succ = Φ₁ m c from rfl]
  unfold Dat.owesAt Pipeline.owesWithin
  rw [show (dats (F := F) m 0 c).owed t0_0.castSucc = owed c dues from rfl, show (dats (F := F) m 0 c).owed t0_0.succ = owed c [] from rfl]
  iintro ⟨HΦ, ⟨%W, %hW, HO⟩, -⟩
  ihave HΦ := (start_body m c) $$ HΦ
  icases HΦ with ⟨%K, ⟨#HR, #HL⟩, Hb, Hx⟩
  iapply (body_wp m K c) $$ [HO Hb]
  · isplitl []; · iexact HR
    isplitl []; · iexact HL
    isplitl [HO]
    · unfold Ow; iexists W; iexact HO
    · iexact Hb
  iintro ⟨HO, Hp⟩
  unfold Φ₁ Ow
  isplitl [Hp Hx]
  · isplitl [Hp] <;> iassumption
  isplitl [HO]
  · icases HO with ⟨%W', HO⟩
    iexists W'
    isplitr; · ipureintro; exact fun _ _ => Or.inl trivial
    iexact HO
  · iempintro

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owed d dues) c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := ((creds (F := F) dues c).trans (creds_dues c)) $$ Hcr
  imodintro
  unfold start
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  rw [commP_0, commP_1, stg_0, stg_1]
  iintro ⟨Hs, -, H0, H1, H2, H3⟩
  isplitl [Hs]; · iexact Hs
  isplitl [H0]; · iexact H0
  isplitl [H1]; · iexact H1
  isplitl [H2]; · iexact H2
  iexact H3

/-- What a device shows when all is done: the barrier's semaphore at zero, the result's rows, and some share of its argument. -/
def result (c : Dev nD) : sProp 𝕄 :=
  iprop(unscopedSems0 c ∗ (bigSep Finset.univ fun t : DJ => outAt c t.1 t.2 (acc m 3 c t.1 t.2)) ∗ xRest m c)

theorem lanes_end (c : Dev nD) : all8 (fun d j => laneZ (F := F) c d j) ⊢ bigSep Finset.univ fun t : DJ => laneV (F := F) c t.1 t.2 := by
  have h : ∀ t : DJ, laneZ (F := F) c t.1 t.2 ⊢ laneV (F := F) c t.1 t.2 := fun t => by
    unfold laneZ laneV
    iintro ⟨H1, H2, H3, H4, H5⟩
    isplitl [H1 H2]
    · isplitl [H1] <;> iassumption
    isplitl [H3 H4]
    · isplitl [H3] <;> iassumption
    iexact H5
  rw [← all8_eq]
  exact bigSep_mono fun t _ => h t

theorem phi1_exit [∀ e, Nonempty (Elt F e)] (c : Dev nD) :
    (dats m 0 c).Φ (Fin.last cfg0.N) ⊢ iprop(result m c ∗ Pipeline.ownSems0 osem c ∗ Pipeline.scopedRest cfg0.spec c) := by
  rw [show (dats m 0 c).Φ (Fin.last cfg0.N) = Φ₁ m c from rfl, scopedRest0_eq, ownSems0_eq, ← commP_0, ← commP_1, ← stg_0, ← stg_1]
  unfold Φ₁ bodyPost result
  rw [unscopedSems0_eq, ← locs_eq]
  iintro ⟨⟨Hb, Hl, Hs0, Hs1, ⟨Hg0, Hg1⟩, Ho, Hloc⟩, Hx⟩
  ihave Hs := (slots_turn (F := F) fun b d j => slotAny (F := F) c d b j) $$ [Hs0 Hs1]
  · isplitl [Hs0]; · iexact Hs0
    iexact Hs1
  icases Hs with ⟨Hc0, Hc1⟩
  ihave Hc0 := (slots_glue (F := F) c 0) $$ Hc0
  ihave Hc1 := (slots_glue (F := F) c 1) $$ Hc1
  ihave Hl := (lanes_end (F := F) c) $$ Hl
  ihave Ho := (Entails.of_eq (all8_eq (F := F) fun d j => outAt c d j (acc m 3 c d j)).symm) $$ Ho
  isplitl [Hb Ho Hx]
  · isplitl [Hb]; · iexact Hb
    isplitl [Ho] <;> iassumption
  isplitl [Hloc Hl]
  · isplitl [Hloc] <;> iassumption
  isplitl [Hc0]; · iexact Hc0
  isplitl [Hc1]; · iexact Hc1
  isplitl [Hg0] <;> iassumption

/-- The result's rows, in memory. -/
theorem rows_read (c : Dev nD) (s' : Phys nD τ sig (Elt F)) (S : Finset DJ) :
    iprop((bigSep S fun t : DJ => outAt c t.1 t.2 (acc m 3 c t.1 t.2)) ∗ SI s')
      ⊢ (iprop(⌜∀ t ∈ S, (outM t.1 t.2).view.read (Elt F) (s'.mem.mem ((outM t.1 t.2).view.loc (c : Thread nD τ))) = acc m 3 c t.1 t.2⌝ ∗ SI s') : sProp 𝕄) := by
  induction S using Finset.induction_on with
  | empty =>
    iintro ⟨-, HS⟩
    isplitr; · ipureintro; exact fun t ht => absurd ht (Finset.notMem_empty t)
    iexact HS
  | insert t S ht ih =>
    refine (Entails.of_eq (show _ = iprop((outAt c t.1 t.2 (acc m 3 c t.1 t.2) ∗ bigSep S fun t : DJ => outAt c t.1 t.2 (acc m 3 c t.1 t.2)) ∗ SI s') from by
      rw [bigSep_insert ht]; rfl)).trans ?_
    iintro ⟨⟨H1, H2⟩, HS⟩
    ihave H := (owns_mem c (outM t.1 t.2) (acc m 3 c t.1 t.2) s') $$ [H1 HS]
    · isplitl [H1]; · unfold outAt; iexact H1
      iexact HS
    icases H with ⟨%h1, HS⟩
    ihave H := ih $$ [H2 HS]
    · isplitl [H2] <;> iassumption
    icases H with ⟨%h2, HS⟩
    isplitr
    · ipureintro
      intro t' ht'
      rcases Finset.mem_insert.mp ht' with rfl | ht'
      · exact h1
      · exact h2 t' ht'
    · iexact HS

/-- The argument, in memory. -/
theorem x_read (c : Dev nD) (s' : Phys nD τ sig (Elt F)) :
    iprop(xRest m c ∗ SI s') ⊢ (iprop(⌜s'.mem.mem ((c : Thread nD τ).loc main_arg0) = m ((c : Thread nD τ).loc main_arg0)⌝ ∗ SI s') : sProp 𝕄) := by
  unfold xRest xAt
  iintro ⟨H, HS⟩
  icombine HS H gives %h
  isplitr
  · ipureintro; exact Buf.eq_of_forall_mem_univ h
  · iexact HS

/-- What a device's memory is found to be. -/
def QY (c : Dev nD) (s : MemSt nD τ sig (Elt F)) : Prop :=
  (∀ t : DJ, (outM t.1 t.2).view.read (Elt F) (s.mem ((outM t.1 t.2).view.loc (c : Thread nD τ))) = acc m 3 c t.1 t.2)
    ∧ s.mem ((c : Thread nD τ).loc main_arg0) = m ((c : Thread nD τ).loc main_arg0)

theorem result_read (c : Dev nD) (s' : Phys nD τ sig (Elt F)) : iprop(result m c ∗ emp ∗ SI s')
    ⊢ |={Set.univ}=> iprop(⌜QY m c s'.mem ∧ ∀ sm : SemLoc sig, sm.isScoped .tc = false → s'.mem.sem ((c : Thread nD τ), sm) = 0⌝ ∗ SI s') := by
  unfold result
  iintro ⟨⟨Hu, Ho, Hx⟩, -, HS⟩
  ihave H := (rows_read m c s' Finset.univ) $$ [Ho HS]
  · isplitl [Ho] <;> iassumption
  icases H with ⟨%h1, HS⟩
  ihave H := (x_read m c s') $$ [Hx HS]
  · isplitl [Hx] <;> iassumption
  icases H with ⟨%h2, HS⟩
  imod (Pipeline.unscopedSems0_read (X := unscopedSems0 c) (c := c) fupd_intro s') $$ [Hu HS] with ⟨%h3, HS⟩
  · isplitl [Hu] <;> iassumption
  imodintro
  isplitr
  · ipureintro; exact ⟨⟨fun t => h1 t (Finset.mem_univ t), h2⟩, h3⟩
  · iexact HS

/-! ## The run of the four devices -/

set_option maxRecDepth 8000 in
/-- From any memory with the counters at zero, every weakly fair execution ends, without fault, with each device's rows of the result at what
    the ring brings it, its argument as it was, and every counter at zero. -/
theorem run_main [∀ e, Nonempty (Elt F e)] : θ_run defs (onTc (τ := τ) (main (F := F))) ⟨m, fun _ => 0, ρ⟩ (fun r => (∀ c, QY m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ defs𝒱 m ρ main
    (hmain := fun _ => rfl)
    (hbody := body_obligation m) (hne := fun w => w.elim0) (harr := arr_whole0) (hstage := stage_whole0) (hshare := fun c w => w.elim0)
    (hdistinct := winFacts0.arr_inj)
    (O₀ := fun c => owed c dues) (howed₀ := fun _ => rfl) (howedN := fun _ => rfl)
    (L := L) (lv := lv) (hL := L_of_ne) (hwaits := fun c => Pipeline.cellsWaits_intro cfgs (dats m) 0 0 c fun w s t => w.elim0)
    (G := G m) (G' := G' m) (u₀ := u₀)
    (hu₀ := by
      unfold u₀
      iintro Hu
      ihave H := (ownU_pair _ _) $$ Hu
      icases H with ⟨HP, HX⟩
      ihave HX := (Entails.of_eq (show BI.own (embR (initOf ringCells ringToks, (1 : Counters))) = (BI.own (ER (F := F) (initOf ringCells ringToks)) : sProp 𝕄) from rfl)) $$ HX
      imod (fund_ring m) $$ HX with HG
      imodintro
      isplitl [HP] <;> iassumption)
    (hglob := glob m)
    (hA := fun _ _ => rfl) (hpf := fun _ k => k.elim0)
    (X := start m) (Y := result m) (Z := fun _ => iprop(emp))
    (hX := start_intro m ρ) (hin := phi0_intro m) (hout := phi1_exit m)
    (QY := fun c s => QY m c s ∧ ∀ sm : SemLoc sig, sm.isScoped .tc = false → s.sem ((c.tc : Thread nD τ), sm) = 0)
    (hY := fun c s' => result_read m c s')
    (hQ := fun _ h hs => ⟨fun c => (h c).2.2.1, sem_eq_zero hs fun c => (h c).2.2.2⟩)

end Cert.KernelIdeal.Pf
-- ==== Proof.KernelIdealValue.lean ====
/-
# What the ring's contents are

The argument's block on device `c` read by rows and columns; each sub-block after the last hop is the sum of the four devices' rows at
device `c`'s columns; hence each device's result, at every index.
-/
module

public import proofs.«01_k».proof.Proof.KernelIdealRun
public import Idealize.ShloMosaic.Lib.ValueIdx
public import Idealize.ShloMosaic.Lib.Pipeline.Value

@[expose] public section

noncomputable section

namespace Cert.KernelIdeal.Pf

open Cert.KernelIdeal Cert.KernelIdeal.Gen
open Idealize.ShloMosaic Idealize.ShloMosaic.TcCoe Idealize.SL Idealize.SL.Sem

variable {F : FTy → Type} [FloatOps F]
variable (m : (ℓ : Loc nD τ sig) → Buf (Elt F) ℓ)

/-- Device `c`'s block of the argument at row `r` and column `k`. -/
def xv (c : Dev nD) (r k : Fin 4096) : Elt F .f32 := xOf m c (ValueIdx.ix3 (n0 := 1) 0 r k)

theorem seed_emb (off : Fin 3 → Nat) (h : ∀ a, off a + S1x512x1024.size a ≤ S1x4096x4096.size a) (i : S512x1024.Idx) (r k : Fin 4096)
    (hr : r.val = off 1 + (i 0).val) (hk : k.val = off 2 + (i 1).val) : (seedM off h).view.emb i = ValueIdx.ix3 (n0 := 1) 0 r k := by
  show (Rect.unit (s := S1x4096x4096) off S1x512x1024.size h).emb (Shape.reshapeEquiv _ i) = _
  have e := Shape.reshapeEquiv_cons_one (n := 2) (d := ![512, 1024]) squeezes_S1x512x1024_S512x1024.numel_eq i
  rw [show Shape.reshapeEquiv _ i = _ from e]
  have h0 : off 0 = 0 := by have := h 0; change off 0 + 1 ≤ 1 at this; omega
  funext a
  apply Fin.ext
  match a with
  | 0 => show off 0 + 1 * 0 = 0; omega
  | 1 => show off 1 + 1 * (i 0).val = r.val; omega
  | 2 => show off 2 + 1 * (i 1).val = k.val; omega

theorem chunk_emb (off : Fin 3 → Nat) (h : ∀ a, off a + S1x2048x1024.size a ≤ S1x4096x4096.size a) (i : S2048x1024.Idx) (r k : Fin 4096)
    (hr : r.val = off 1 + (i 0).val) (hk : k.val = off 2 + (i 1).val) : (chunkM off h).view.emb i = ValueIdx.ix3 (n0 := 1) 0 r k := by
  show (Rect.unit (s := S1x4096x4096) off S1x2048x1024.size h).emb (Shape.reshapeEquiv _ i) = _
  have e := Shape.reshapeEquiv_cons_one (n := 2) (d := ![2048, 1024]) squeezes_S1x2048x1024_S2048x1024.numel_eq i
  rw [show Shape.reshapeEquiv _ i = _ from e]
  have h0 : off 0 = 0 := by have := h 0; change off 0 + 1 ≤ 1 at this; omega
  funext a
  apply Fin.ext
  match a with
  | 0 => show off 0 + 1 * 0 = 0; omega
  | 1 => show off 1 + 1 * (i 0).val = r.val; omega
  | 2 => show off 2 + 1 * (i 1).val = k.val; omega

theorem out_emb (d : Fin 2) (j : Fin 4) (i : S512x1024.Idx) (y : S4096x1024.Idx)
    (h0 : (y 0).val = 2048 * d.val + 512 * j.val + (i 0).val) (h1 : (y 1).val = (i 1).val) : (outM d j).view.emb i = y := by
  show (Rect.unit (s := S4096x1024) ![2048 * d.val + 512 * j.val, 0] S512x1024.size (out_inb d j)).emb i = y
  funext a
  apply Fin.ext
  match a with
  | 0 => show 2048 * d.val + 512 * j.val + 1 * (i 0).val = (y 0).val; omega
  | 1 => show 0 + 1 * (i 1).val = (y 1).val; omega

theorem seed_at (c : Dev nD) (d : Fin 2) (j : Fin 4) (i : S512x1024.Idx) (r k : Fin 4096)
    (hr : r.val = 2048 * d.val + 512 * j.val + (i 0).val) (hk : k.val = 1024 * ((c.val + (3 - 2 * d.val)) % 4) + (i 1).val) :
    seedV m c d j i = xv m c r k := by
  unfold seedV xv
  exact congrArg (xOf m c) (seed_emb _ _ i r k hr hk)

theorem rows_at (s : ℕ) (c : Dev nD) (d : Fin 2) (j : Fin 4) (i : S512x1024.Idx) (r k : Fin 4096)
    (hr : r.val = 2048 * d.val + 512 * j.val + (i 0).val) (hk : k.val = 1024 * ((c.val + 2 + s * (3 - 2 * d.val)) % 4) + (i 1).val) :
    rowsV m s c d j i = xv m c r k := by
  unfold rowsV stageV xv
  refine congrArg (xOf m c) (chunk_emb _ _ _ r k ?_ ?_)
  · show r.val = 2048 * d.val + (512 * j.val + 1 * (i 0).val); omega
  · show k.val = 1024 * ((c.val + 2 + s * (3 - 2 * d.val)) % 4) + (0 + 1 * (i 1).val); omega

/-- A sub-block after the last hop: the rows of the four devices at the columns of device `c`, added in the ring's order. -/
theorem acc_at (c : Dev nD) (d : Fin 2) (j : Fin 4) (i : S512x1024.Idx) (r k : Fin 4096)
    (hr : r.val = 2048 * d.val + 512 * j.val + (i 0).val) (hk : k.val = 1024 * c.val + (i 1).val) :
    acc m 3 c d j i = FloatOps.addf (FloatOps.addf (FloatOps.addf (xv m (up d (up d (up d c))) r k) (xv m (up d (up d c)) r k)) (xv m (up d c) r k)) (xv m c r k) := by
  have hc : ((up d (up d (up d c))).val + (3 - 2 * d.val)) % 4 = c.val ∧ ((up d (up d c)).val + 2 + 0 * (3 - 2 * d.val)) % 4 = c.val
      ∧ ((up d c).val + 2 + 1 * (3 - 2 * d.val)) % 4 = c.val ∧ (c.val + 2 + 2 * (3 - 2 * d.val)) % 4 = c.val := by
    clear hk hr; revert d c; decide
  show FloatOps.addf (FloatOps.addf (FloatOps.addf (seedV m (up d (up d (up d c))) d j i) (rowsV m 0 (up d (up d c)) d j i)) (rowsV m 1 (up d c) d j i)) (rowsV m 2 c d j i) = _
  rw [seed_at m _ d j i r k hr (by rw [hc.1]; exact hk), rows_at m 0 _ d j i r k hr (by rw [hc.2.1]; exact hk),
    rows_at m 1 _ d j i r k hr (by rw [hc.2.2.1]; exact hk), rows_at m 2 _ d j i r k hr (by rw [hc.2.2.2]; exact hk)]

/-- Device `c`'s result at row `r` of column `b`, from what the run leaves. -/
theorem out_at (c : Dev nD) (s : MemSt nD τ sig (Elt F)) (h : QY m c s) (y : S4096x1024.Idx) (r k : Fin 4096)
    (hr : r.val = (y 0).val) (hk : k.val = 1024 * c.val + (y 1).val) : ∃ d : Fin 2,
    s.mem ((c : Thread nD τ).loc main_v1) y = FloatOps.addf (FloatOps.addf (FloatOps.addf (xv m (up d (up d (up d c))) r k) (xv m (up d (up d c)) r k)) (xv m (up d c) r k)) (xv m c r k) := by
  have h0 : (y 0).val < 4096 := (y 0).isLt
  have h1 : (y 1).val < 1024 := (y 1).isLt
  have hd : (y 0).val / 2048 < 2 := by omega
  have hj : (y 0).val % 2048 / 512 < 4 := by omega
  have hi : (y 0).val % 512 < 512 := by omega
  have e := congrFun (h.1 (⟨(y 0).val / 2048, hd⟩, ⟨(y 0).val % 2048 / 512, hj⟩)) (ValueIdx.ix2 (n0 := 512) (n1 := 1024) ⟨(y 0).val % 512, hi⟩ (y 1))
  refine ⟨⟨(y 0).val / 2048, hd⟩, ?_⟩
  rw [← acc_at m c ⟨(y 0).val / 2048, hd⟩ ⟨(y 0).val % 2048 / 512, hj⟩ (ValueIdx.ix2 (n0 := 512) (n1 := 1024) ⟨(y 0).val % 512, hi⟩ (y 1)) r k ?_ hk]
  · rw [← e]
    refine congrArg (s.mem ((c : Thread nD τ).loc main_v1)) (out_emb _ _ _ y ?_ rfl).symm
    show (y 0).val = 2048 * ((y 0).val / 2048) + 512 * ((y 0).val % 2048 / 512) + (y 0).val % 512
    omega
  · show r.val = 2048 * ((y 0).val / 2048) + 512 * ((y 0).val % 2048 / 512) + (y 0).val % 512
    omega

end Cert.KernelIdeal.Pf
-- ==== Proof.KernelIdealEnd.lean ====
/-
# The claim about the sum

The reference adds the four devices' blocks along the first axis; cut over its columns, its block on device `c` is what the kernel leaves there.
-/
module

public import proofs.«01_k».proof.Defs
public import proofs.«01_k».proof.Proof.KernelIdealValue
public import proofs.«01_k».proof.Proof.Gen.ReferenceIdeal.Run
public import Idealize.ShloMosaic.Lib.Pointwise.Reduce
public import Idealize.ShloMosaic.PureOps.Ideal.Laws

@[expose] public section

noncomputable section

namespace Cert.KernelIdeal.Pf

open Cert.KernelIdeal Cert.KernelIdeal.Gen
open Idealize.ShloMosaic Idealize.ShloMosaic.TcCoe Idealize.SL Idealize.SL.Sem

/-- Four numbers added along the ring, either way round and from any device, are their sum. -/
theorem ring_sum (f : Dev nD → EReal) (c : Dev nD) (d : Fin 2) :
    ((f (up d (up d (up d c))) + f (up d (up d c))) + f (up d c)) + f c = ∑ k : Fin 4, f k := by
  rw [Fin.sum_univ_four]
  match d, c with
  | 0, 0 => show ((f 1 + f 2) + f 3) + f 0 = _; ac_rfl
  | 0, 1 => show ((f 2 + f 3) + f 0) + f 1 = _; ac_rfl
  | 0, 2 => show ((f 3 + f 0) + f 1) + f 2 = _; ac_rfl
  | 0, 3 => show ((f 0 + f 1) + f 2) + f 3 = _; ac_rfl
  | 1, 0 => show ((f 3 + f 2) + f 1) + f 0 = _; ac_rfl
  | 1, 1 => show ((f 0 + f 3) + f 2) + f 1 = _; ac_rfl
  | 1, 2 => show ((f 1 + f 0) + f 3) + f 2 = _; ac_rfl
  | 1, 3 => show ((f 2 + f 1) + f 0) + f 3 = _; ac_rfl

/-- The reference's sum of the whole array. -/
abbrev refSum (x : Cert.ReferenceIdeal.S4x4096x4096.Idx → Ideal .f32) : Cert.ReferenceIdeal.S4096x4096.Idx → Ideal .f32 :=
  Host.reduceAdd (F := Ideal) (φ := .f32) x (constant (F := Ideal) Cert.ReferenceIdeal.S_ .f32 0x00000000#32) Cert.ReferenceIdeal.Gen.reducesTo_S4x4096x4096_S4096x4096_d0 Cert.ReferenceIdeal.Gen.h_S_

/-- The reference at row `r` and column `k`. -/
theorem refSum_at (x : Cert.ReferenceIdeal.S4x4096x4096.Idx → Ideal .f32) (j : Cert.ReferenceIdeal.S4096x4096.Idx) (r k : Fin 4096)
    (hr : r.val = (j 0).val) (hk : k.val = (j 1).val) : refSum x j = ∑ a : Fin 4, x (ValueIdx.ix3 a r k) := by
  have hr' : r = ⟨(j 0).val, (j 0).isLt⟩ := Fin.ext hr
  have hk' : k = ⟨(j 1).val, (j 1).isLt⟩ := Fin.ext hk
  have e := Ideal.hostReduceAdd_r3_a0 (n0 := 4) (n1 := 4096) (n2 := 4096) Cert.ReferenceIdeal.Gen.reducesTo_S4x4096x4096_S4096x4096_d0 x (Ideal.ofBits .f32 0x00000000#32) j
  rw [Ideal.ofBits_zero_f32, zero_add] at e
  subst hr' hk'
  refine Eq.trans ?_ e
  show Ideal.hostReduceAdd _ x (Ideal.ofBits .f32 0x00000000#32) j = _
  rw [Ideal.ofBits_zero_f32]

variable (m : (ℓ : Loc nD τ sig) → Buf (Elt Ideal) ℓ)

/-- Device `c`'s result is its block of the reference's sum, when its argument is its block of the reference's. -/
theorem out_eq (x : Cert.ReferenceIdeal.S4x4096x4096.Idx → Ideal .f32) (T : Layout.Tiles ⟨3, ![1, 4096, 4096]⟩ ⟨3, ![4, 4096, 4096]⟩ 0 4)
    (T' : Layout.Tiles ⟨2, ![4096, 1024]⟩ ⟨2, ![4096, 4096]⟩ 1 4)
    (hx : ∀ c : Dev nD, m ((c.tc : Thread nD τ).loc main_arg0) = Layout.block ⟨3, ![1, 4096, 4096]⟩ ⟨3, ![4, 4096, 4096]⟩ 0 4 c x T)
    (c : Dev nD) (s : MemSt nD τ sig (Elt Ideal)) (h : QY m c s) :
    s.mem ((c.tc : Thread nD τ).loc main_v1) = Layout.block ⟨2, ![4096, 1024]⟩ ⟨2, ![4096, 4096]⟩ 1 4 c (refSum x) T' := by
  funext y
  have h0 : (y 0).val < 4096 := (y 0).isLt
  have h1 : (y 1).val < 1024 := (y 1).isLt
  have hc : c.val < 4 := c.isLt
  have hk : 1024 * c.val + (y 1).val < 4096 := by omega
  obtain ⟨d, e⟩ := out_at m c s h y ⟨(y 0).val, h0⟩ ⟨1024 * c.val + (y 1).val, hk⟩ rfl rfl
  refine e.trans ?_
  have hv : ∀ k : Dev nD, xv m k ⟨(y 0).val, h0⟩ ⟨1024 * c.val + (y 1).val, hk⟩ = x (ValueIdx.ix3 k ⟨(y 0).val, h0⟩ ⟨1024 * c.val + (y 1).val, hk⟩) := fun k => by
    refine (congrFun (hx k) (ValueIdx.ix3 (n0 := 1) 0 ⟨(y 0).val, h0⟩ ⟨1024 * c.val + (y 1).val, hk⟩)).trans ?_
    refine congrArg x ?_
    funext a
    apply Fin.ext
    match a with
    | 0 => show k.val * 1 + 0 = k.val; omega
    | 1 => rfl
    | 2 => rfl
  rw [hv, hv, hv, hv]
  refine (ring_sum (fun k => x (ValueIdx.ix3 k ⟨(y 0).val, h0⟩ ⟨1024 * c.val + (y 1).val, hk⟩)) c d).trans ?_
  refine (refSum_at x (T'.idx c y) _ _ rfl ?_).symm
  show 1024 * c.val + (y 1).val = c.val * 1024 + (y 1).val
  omega

/-- The two programs agree. -/
theorem agree : Cert.algebraic_KernelIdeal_ReferenceIdeal := by
  intro m g m' g' _ hx
  refine ⟨refSum (m' (((0 : Dev Cert.ReferenceIdeal.nD).tc : Thread _ Cert.ReferenceIdeal.τ).loc Cert.ReferenceIdeal.main_arg0)), ?_, ?_⟩
  · exact (θ_run defs _ _).mono (fun r h c => ⟨out_eq m _ _ _ hx c r.2 (h.1 c), (h.1 c).2⟩) (run_main m g)
  · exact (θ_run Cert.ReferenceIdeal.defs _ _).mono (fun r h => h 0) (Cert.ReferenceIdeal.Value.run (F := Ideal) m' g')

end Cert.KernelIdeal.Pf
-- ==== Proof.lean ====
/-
# The five claims

The kernel, as printed and over the extended reals, and the reference each end with their argument as it was and every counter at zero;
and the kernel's result is the reference's, cut over its columns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealEnd
public import Idealize.ShloMosaic.Adequacy
public import Idealize.ShloMosaic.Init

@[expose] public section

noncomputable section

namespace Cert.Proof

open Idealize.ShloMosaic Idealize.SL.Sem Cert.Kernel

/-- The kernel ends with its argument as it was and every counter at zero. -/
theorem frame_p : Cert.quiescent_Kernel := fun m ρ _ =>
  (θ_run Cert.Kernel.defs _ _).mono (fun _ h => ⟨fun c => (h.1 c).2, h.2⟩) (Cert.Kernel.Pf.run_main (F := Bits) m ρ)

/-- So does its text read over the extended reals. -/
theorem frame_pi : Cert.quiescent_KernelIdeal := fun m ρ _ =>
  (θ_run Cert.KernelIdeal.defs _ _).mono (fun _ h => ⟨fun c => (h.1 c).2, h.2⟩) (Cert.KernelIdeal.Pf.run_main (F := Ideal) m ρ)

/-- So does the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_p, frame_pi, frame_ri, trivial, Cert.KernelIdeal.Pf.agree⟩

end Cert.Proof

end
